-- ==== Defs.lean ====
def Pre_Kernel [hPre_steps_in_schedule : Cert.Pre_steps_in_schedule.Facts] (m : (ℓ : Loc Cert.Kernel.nD Cert.Kernel.τ Cert.Kernel.sig) → Buf (Elt Bits) ℓ) : Prop :=
  ∀ c : Dev Cert.Kernel.nD,
    (Cert.Pre_steps_in_schedule.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_steps_in_schedule : Cert.Pre_steps_in_schedule.Facts] (m : (ℓ : Loc Cert.KernelIdeal.nD Cert.KernelIdeal.τ Cert.KernelIdeal.sig) → Buf (Elt Ideal) ℓ) : Prop :=
  ∀ c : Dev Cert.KernelIdeal.nD,
    (Cert.Pre_steps_in_schedule.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_KernelIdeal_steps_and_levels_in_range [hPre_steps_and_levels_in_range : Cert.Pre_steps_and_levels_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_steps_and_levels_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_steps_and_levels_in_range [hPre_steps_and_levels_in_range : Cert.Pre_steps_and_levels_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_steps_and_levels_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] [hPre_steps_in_schedule : Cert.Pre_steps_in_schedule.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_steps_in_schedule : Cert.Pre_steps_in_schedule.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_steps_and_levels_in_range [hKernelIdeal : Cert.KernelIdeal.Facts] [hPre_steps_and_levels_in_range : Cert.Pre_steps_and_levels_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_steps_and_levels_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_steps_and_levels_in_range [hReferenceIdeal : Cert.ReferenceIdeal.Facts] [hPre_steps_and_levels_in_range : Cert.Pre_steps_and_levels_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_steps_and_levels_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_steps_and_levels_in_range [hKernelIdeal : Cert.KernelIdeal.Facts] [hReferenceIdeal : Cert.ReferenceIdeal.Facts] [hPre_steps_and_levels_in_range : Cert.Pre_steps_and_levels_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_steps_and_levels_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_steps_in_schedule : Cert.Pre_steps_in_schedule.Facts) (hPre_steps_and_levels_in_range : Cert.Pre_steps_and_levels_in_range.Facts),
    quiescent_Kernel (hKernel := hKernel) (hPre_steps_in_schedule := hPre_steps_in_schedule)
    ∧ quiescent_KernelIdeal (hKernelIdeal := hKernelIdeal) (hPre_steps_in_schedule := hPre_steps_in_schedule)
    ∧ quiescent_KernelIdeal_pre_steps_and_levels_in_range (hKernelIdeal := hKernelIdeal) (hPre_steps_and_levels_in_range := hPre_steps_and_levels_in_range)
    ∧ quiescent_ReferenceIdeal (hReferenceIdeal := hReferenceIdeal)
    ∧ quiescent_ReferenceIdeal_pre_steps_and_levels_in_range (hReferenceIdeal := hReferenceIdeal) (hPre_steps_and_levels_in_range := hPre_steps_and_levels_in_range)
    ∧ preserves_Kernel_KernelIdeal
    ∧ algebraic_KernelIdeal_ReferenceIdeal_pre_steps_and_levels_in_range (hKernelIdeal := hKernelIdeal) (hReferenceIdeal := hReferenceIdeal) (hPre_steps_and_levels_in_range := hPre_steps_and_levels_in_range)
-- ==== Pre_steps_and_levels_in_range.lean ====
abbrev S256x128x80x2 : Shape := ⟨4, ![256, 128, 80, 2]⟩
abbrev S256 : Shape := ⟨1, ![256]⟩
abbrev S256x128 : Shape := ⟨2, ![256, 128]⟩
abbrev S100 : Shape := ⟨1, ![100]⟩
abbrev S_ : Shape := ⟨0, ![]⟩
abbrev S256x1 : Shape := ⟨2, ![256, 1]⟩
abbrev S1x100 : Shape := ⟨2, ![1, 100]⟩
abbrev S256x100 : Shape := ⟨2, ![256, 100]⟩

class Facts : Prop where
  bcast_S_S256 : S_.BroadcastsInDim S256 (![] : Fin 0 → Fin S256.rank)
  bcast_S_S100 : S_.BroadcastsInDim S100 (![] : Fin 0 → Fin S100.rank)
  bcast_S256_S256x1_0 : S256.BroadcastsInDim S256x1 (![0] : Fin 1 → Fin S256x1.rank)
  bcast_S100_S1x100_1 : S100.BroadcastsInDim S1x100 (![1] : Fin 1 → Fin S1x100.rank)
  bcast_S256x1_S256x100_0_1 : S256x1.BroadcastsInDim S256x100 (![0, 1] : Fin 2 → Fin S256x100.rank)
  bcast_S1x100_S256x100_0_1 : S1x100.BroadcastsInDim S256x100 (![0, 1] : Fin 2 → Fin S256x100.rank)

variable [Facts]

def fn {F : FTy → Type} [FloatOps F] (main_arg0 : FVec F S256x128x80x2 .f32) (main_arg1 : FVec F S256x128x80x2 .f32) (main_arg2 : IVec S256 32) (main_arg3 : IVec S256 32) (main_arg4 : IVec S256 32) (main_arg5 : FVec F S256x128 .f32) (main_arg6 : FVec F S100 .f32) : IVec S256x100 1 :=
  let main_c : IVec S_ 32 := constantI S_ 32 0#32
  let main_v0 : IVec S256 32 := broadcastInDim S256 ![] bcast_S_S256 main_c
  let main_v1 : IVec S256 1 := cmpi .sge main_arg2 main_v0
  let main_c_0 : IVec S_ 32 := constantI S_ 32 100#32
  let main_v2 : IVec S256 32 := broadcastInDim S256 ![] bcast_S_S256 main_c_0
  let main_v3 : IVec S256 1 := cmpi .slt main_arg2 main_v2
  let main_v4 : IVec S256 1 := andi main_v1 main_v3
  let main_cst : FVec F S_ .f32 := constant S_ .f32 0x00000000#32
  let main_v5 : FVec F S100 .f32 := broadcastInDim S100 ![] bcast_S_S100 main_cst
  let main_v6 : IVec S100 1 := cmpf .oge main_arg6 main_v5
  let main_cst_1 : FVec F S_ .f32 := constant S_ .f32 0x3F800000#32
  let main_v7 : FVec F S100 .f32 := broadcastInDim S100 ![] bcast_S_S100 main_cst_1
  let main_v8 : IVec S100 1 := cmpf .ole main_arg6 main_v7
  let main_v9 : IVec S100 1 := andi main_v6 main_v8
  let main_v10 : IVec S256x1 1 := broadcastInDim S256x1 ![0] bcast_S256_S256x1_0 main_v4
  let main_v11 : IVec S1x100 1 := broadcastInDim S1x100 ![1] bcast_S100_S1x100_1 main_v9
  let main_v12 : IVec S256x100 1 := broadcastInDim S256x100 ![0, 1] bcast_S256x1_S256x100_0_1 main_v10
  let main_v13 : IVec S256x100 1 := broadcastInDim S256x100 ![0, 1] bcast_S1x100_S256x100_0_1 main_v11
  let main_v14 : IVec S256x100 1 := andi main_v12 main_v13
  main_v14
-- ==== Pre_steps_in_schedule.lean ====
abbrev S256x128x80x2 : Shape := ⟨4, ![256, 128, 80, 2]⟩
abbrev S256 : Shape := ⟨1, ![256]⟩
abbrev S256x128 : Shape := ⟨2, ![256, 128]⟩
abbrev S100 : Shape := ⟨1, ![100]⟩
abbrev S_ : Shape := ⟨0, ![]⟩

class Facts : Prop where
  bcast_S_S256 : S_.BroadcastsInDim S256 (![] : Fin 0 → Fin S256.rank)

variable [Facts]

def fn {F : FTy → Type} [FloatOps F] (main_arg0 : FVec F S256x128x80x2 .f32) (main_arg1 : FVec F S256x128x80x2 .f32) (main_arg2 : IVec S256 32) (main_arg3 : IVec S256 32) (main_arg4 : IVec S256 32) (main_arg5 : FVec F S256x128 .f32) (main_arg6 : FVec F S100 .f32) : IVec S256 1 :=
  let main_c : IVec S_ 32 := constantI S_ 32 0#32
  let main_v0 : IVec S256 32 := broadcastInDim S256 ![] bcast_S_S256 main_c
  let main_v1 : IVec S256 1 := cmpi .sge main_arg2 main_v0
  let main_c_0 : IVec S_ 32 := constantI S_ 32 100#32
  let main_v2 : IVec S256 32 := broadcastInDim S256 ![] bcast_S_S256 main_c_0
  let main_v3 : IVec S256 1 := cmpi .slt main_arg2 main_v2
  let main_v4 : IVec S256 1 := andi main_v1 main_v3
  main_v4
-- ==== Kernel.lean ====
abbrev S256x128x80x2 : Shape := ⟨4, ![256, 128, 80, 2]⟩
abbrev S256 : Shape := ⟨1, ![256]⟩
abbrev S256x128 : Shape := ⟨2, ![256, 128]⟩
abbrev S100 : Shape := ⟨1, ![100]⟩
abbrev S256x80x2x128 : Shape := ⟨4, ![256, 80, 2, 128]⟩
abbrev S256x160x128 : Shape := ⟨3, ![256, 160, 128]⟩
abbrev S64x80x128 : Shape := ⟨3, ![64, 80, 128]⟩
abbrev S1 : Shape := ⟨1, ![1]⟩
abbrev S1x80x128 : Shape := ⟨3, ![1, 80, 128]⟩
abbrev S80x128 : Shape := ⟨2, ![80, 128]⟩

abbrev nBuf : Space → Nat
  | .hbm => 14
  | .vmem => 6
  | .smem => 2
  | _ => 0

abbrev bufTy : (tb : Table) → Fin (tcTables nBuf tb) → BufTy
  | .hbm, ⟨0, _⟩ => ⟨S256x128x80x2, .f32⟩
  | .hbm, ⟨1, _⟩ => ⟨S256x128x80x2, .f32⟩
  | .hbm, ⟨2, _⟩ => ⟨S256, .i32⟩
  | .hbm, ⟨3, _⟩ => ⟨S256, .i32⟩
  | .hbm, ⟨4, _⟩ => ⟨S256, .i32⟩
  | .hbm, ⟨5, _⟩ => ⟨S256x128, .f32⟩
  | .hbm, ⟨6, _⟩ => ⟨S100, .f32⟩
  | .hbm, ⟨7, _⟩ => ⟨S256x80x2x128, .f32⟩
  | .hbm, ⟨8, _⟩ => ⟨S256x160x128, .f32⟩
  | .hbm, ⟨9, _⟩ => ⟨S256x80x2x128, .f32⟩
  | .hbm, ⟨10, _⟩ => ⟨S256x160x128, .f32⟩
  | .hbm, ⟨11, _⟩ => ⟨S256x160x128, .f32⟩
  | .hbm, ⟨12, _⟩ => ⟨S256x80x2x128, .f32⟩
  | .hbm, ⟨13, _⟩ => ⟨S256x128x80x2, .f32⟩
  | .local _ .vmem, ⟨0, _⟩ => ⟨S64x80x128, .f32⟩
  | .local _ .vmem, ⟨1, _⟩ => ⟨S64x80x128, .f32⟩
  | .local _ .vmem, ⟨2, _⟩ => ⟨S64x80x128, .f32⟩
  | .local _ .vmem, ⟨3, _⟩ => ⟨S64x80x128, .f32⟩
  | .local _ .vmem, ⟨4, _⟩ => ⟨S64x80x128, .f32⟩
  | .local _ .vmem, ⟨5, _⟩ => ⟨S64x80x128, .f32⟩
  | .local _ .smem, ⟨0, _⟩ => ⟨S256, .i32⟩
  | .local _ .smem, ⟨1, _⟩ => ⟨S100, .f32⟩
  | _, _ => ⟨S256x128x80x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 2], ![false, false]⟩

def k0_off1 (i : grid0.Coords) : Fin 1 → Nat :=
  let arg0 : BitVec 32 := BitVec.ofNat 32 (i 0).val
  let c64_i32 : BitVec 32 := 64#32
  let v0 : BitVec 32 := Scalar.muli arg0 c64_i32
  let c0_i32 : BitVec 32 := 0#32
  let v1 : BitVec 32 := Scalar.addi v0 c0_i32
  let v2 : Index := Scalar.indexCast v1
  ![v2.toNat]
def k0_off2 (v3 : BitVec 32) : Fin 1 → Nat :=
  let v4 : Index := Scalar.indexCast v3
  ![v4.toNat]

def k0_chk1 (v3 : BitVec 32) : Prop :=
  (∀ a, (k0_off2 v3) a + S1.size a ≤ S100.size a)
theorem k0_off2_inb : ∀ (v3 : BitVec 32) (k0_hw1 : k0_chk1 v3), ∀ a, (k0_off2 v3) a + S1.size a ≤ S100.size a := fun v3 k0_hw1 => k0_hw1

def k0_off3 (i : grid0.Coords) : Fin 1 → Nat :=
  let arg0 : BitVec 32 := BitVec.ofNat 32 (i 0).val
  let c64_i32_8 : BitVec 32 := 64#32
  let v21 : BitVec 32 := Scalar.muli arg0 c64_i32_8
  let c1_i32 : BitVec 32 := 1#32
  let v22 : BitVec 32 := Scalar.addi v21 c1_i32
  let v23 : Index := Scalar.indexCast v22
  ![v23.toNat]
def k0_off4 (v24 : BitVec 32) : Fin 1 → Nat :=
  let v25 : Index := Scalar.indexCast v24
  ![v25.toNat]

def k0_chk2 (v24 : BitVec 32) : Prop :=
  (∀ a, (k0_off4 v24) a + S1.size a ≤ S100.size a)
theorem k0_off4_inb : ∀ (v24 : BitVec 32) (k0_hw2 : k0_chk2 v24), ∀ a, (k0_off4 v24) a + S1.size a ≤ S100.size a := fun v24 k0_hw2 => k0_hw2

def k0_off5 (i : grid0.Coords) : Fin 1 → Nat :=
  let arg0 : BitVec 32 := BitVec.ofNat 32 (i 0).val
  let c64_i32_18 : BitVec 32 := 64#32
  let v42 : BitVec 32 := Scalar.muli arg0 c64_i32_18
  let c2_i32 : BitVec 32 := 2#32
  let v43 : BitVec 32 := Scalar.addi v42 c2_i32
  let v44 : Index := Scalar.indexCast v43
  ![v44.toNat]
def k0_off6 (v45 : BitVec 32) : Fin 1 → Nat :=
  let v46 : Index := Scalar.indexCast v45
  ![v46.toNat]

def k0_chk3 (v45 : BitVec 32) : Prop :=
  (∀ a, (k0_off6 v45) a + S1.size a ≤ S100.size a)
theorem k0_off6_inb : ∀ (v45 : BitVec 32) (k0_hw3 : k0_chk3 v45), ∀ a, (k0_off6 v45) a + S1.size a ≤ S100.size a := fun v45 k0_hw3 => k0_hw3

def k0_off7 (i : grid0.Coords) : Fin 1 → Nat :=
  let arg0 : BitVec 32 := BitVec.ofNat 32 (i 0).val
  let c64_i32_28 : BitVec 32 := 64#32
  let v63 : BitVec 32 := Scalar.muli arg0 c64_i32_28
  let c3_i32 : BitVec 32 := 3#32
  let v64 : BitVec 32 := Scalar.addi v63 c3_i32
  let v65 : Index := Scalar.indexCast v64
  ![v65.toNat]
def k0_off8 (v66 : BitVec 32) : Fin 1 → Nat :=
  let v67 : Index := Scalar.indexCast v66
  ![v67.toNat]

def k0_chk4 (v66 : BitVec 32) : Prop :=
  (∀ a, (k0_off8 v66) a + S1.size a ≤ S100.size a)
theorem k0_off8_inb : ∀ (v66 : BitVec 32) (k0_hw4 : k0_chk4 v66), ∀ a, (k0_off8 v66) a + S1.size a ≤ S100.size a := fun v66 k0_hw4 => k0_hw4

def k0_off9 (i : grid0.Coords) : Fin 1 → Nat :=
  let arg0 : BitVec 32 := BitVec.ofNat 32 (i 0).val
  let c64_i32_38 : BitVec 32 := 64#32
  let v84 : BitVec 32 := Scalar.muli arg0 c64_i32_38
  let c4_i32 : BitVec 32 := 4#32
  let v85 : BitVec 32 := Scalar.addi v84 c4_i32
  let v86 : Index := Scalar.indexCast v85
  ![v86.toNat]
def k0_off10 (v87 : BitVec 32) : Fin 1 → Nat :=
  let v88 : Index := Scalar.indexCast v87
  ![v88.toNat]

def k0_chk5 (v87 : BitVec 32) : Prop :=
  (∀ a, (k0_off10 v87) a + S1.size a ≤ S100.size a)
theorem k0_off10_inb : ∀ (v87 : BitVec 32) (k0_hw5 : k0_chk5 v87), ∀ a, (k0_off10 v87) a + S1.size a ≤ S100.size a := fun v87 k0_hw5 => k0_hw5

def k0_off11 (i : grid0.Coords) : Fin 1 → Nat :=
  let arg0 : BitVec 32 := BitVec.ofNat 32 (i 0).val
  let c64_i32_48 : BitVec 32 := 64#32
  let v105 : BitVec 32 := Scalar.muli arg0 c64_i32_48
  let c5_i32 : BitVec 32 := 5#32
  let v106 : BitVec 32 := Scalar.addi v105 c5_i32
  let v107 : Index := Scalar.indexCast v106
  ![v107.toNat]
def k0_off12 (v108 : BitVec 32) : Fin 1 → Nat :=
  let v109 : Index := Scalar.indexCast v108
  ![v109.toNat]

def k0_chk6 (v108 : BitVec 32) : Prop :=
  (∀ a, (k0_off12 v108) a + S1.size a ≤ S100.size a)
theorem k0_off12_inb : ∀ (v108 : BitVec 32) (k0_hw6 : k0_chk6 v108), ∀ a, (k0_off12 v108) a + S1.size a ≤ S100.size a := fun v108 k0_hw6 => k0_hw6

def k0_off13 (i : grid0.Coords) : Fin 1 → Nat :=
  let arg0 : BitVec 32 := BitVec.ofNat 32 (i 0).val
  let c64_i32_58 : BitVec 32 := 64#32
  let v126 : BitVec 32 := Scalar.muli arg0 c64_i32_58
  let c6_i32 : BitVec 32 := 6#32
  let v127 : BitVec 32 := Scalar.addi v126 c6_i32
  let v128 : Index := Scalar.indexCast v127
  ![v128.toNat]
def k0_off14 (v129 : BitVec 32) : Fin 1 → Nat :=
  let v130 : Index := Scalar.indexCast v129
  ![v130.toNat]

def k0_chk7 (v129 : BitVec 32) : Prop :=
  (∀ a, (k0_off14 v129) a + S1.size a ≤ S100.size a)
theorem k0_off14_inb : ∀ (v129 : BitVec 32) (k0_hw7 : k0_chk7 v129), ∀ a, (k0_off14 v129) a + S1.size a ≤ S100.size a := fun v129 k0_hw7 => k0_hw7

def k0_off15 (i : grid0.Coords) : Fin 1 → Nat :=
  let arg0 : BitVec 32 := BitVec.ofNat 32 (i 0).val
  let c64_i32_68 : BitVec 32 := 64#32
  let v147 : BitVec 32 := Scalar.muli arg0 c64_i32_68
  let c7_i32 : BitVec 32 := 7#32
  let v148 : BitVec 32 := Scalar.addi v147 c7_i32
  let v149 : Index := Scalar.indexCast v148
  ![v149.toNat]
def k0_off16 (v150 : BitVec 32) : Fin 1 → Nat :=
  let v151 : Index := Scalar.indexCast v150
  ![v151.toNat]

def k0_chk8 (v150 : BitVec 32) : Prop :=
  (∀ a, (k0_off16 v150) a + S1.size a ≤ S100.size a)
theorem k0_off16_inb : ∀ (v150 : BitVec 32) (k0_hw8 : k0_chk8 v150), ∀ a, (k0_off16 v150) a + S1.size a ≤ S100.size a := fun v150 k0_hw8 => k0_hw8

def k0_off17 (i : grid0.Coords) : Fin 1 → Nat :=
  let arg0 : BitVec 32 := BitVec.ofNat 32 (i 0).val
  let c64_i32_78 : BitVec 32 := 64#32
  let v168 : BitVec 32 := Scalar.muli arg0 c64_i32_78
  let c8_i32 : BitVec 32 := 8#32
  let v169 : BitVec 32 := Scalar.addi v168 c8_i32
  let v170 : Index := Scalar.indexCast v169
  ![v170.toNat]
def k0_off18 (v171 : BitVec 32) : Fin 1 → Nat :=
  let v172 : Index := Scalar.indexCast v171
  ![v172.toNat]

def k0_chk9 (v171 : BitVec 32) : Prop :=
  (∀ a, (k0_off18 v171) a + S1.size a ≤ S100.size a)
theorem k0_off18_inb : ∀ (v171 : BitVec 32) (k0_hw9 : k0_chk9 v171), ∀ a, (k0_off18 v171) a + S1.size a ≤ S100.size a := fun v171 k0_hw9 => k0_hw9

def k0_off19 (i : grid0.Coords) : Fin 1 → Nat :=
  let arg0 : BitVec 32 := BitVec.ofNat 32 (i 0).val
  let c64_i32_88 : BitVec 32 := 64#32
  let v189 : BitVec 32 := Scalar.muli arg0 c64_i32_88
  let c9_i32 : BitVec 32 := 9#32
  let v190 : BitVec 32 := Scalar.addi v189 c9_i32
  let v191 : Index := Scalar.indexCast v190
  ![v191.toNat]
def k0_off20 (v192 : BitVec 32) : Fin 1 → Nat :=
  let v193 : Index := Scalar.indexCast v192
  ![v193.toNat]

def k0_chk10 (v192 : BitVec 32) : Prop :=
  (∀ a, (k0_off20 v192) a + S1.size a ≤ S100.size a)
theorem k0_off20_inb : ∀ (v192 : BitVec 32) (k0_hw10 : k0_chk10 v192), ∀ a, (k0_off20 v192) a + S1.size a ≤ S100.size a := fun v192 k0_hw10 => k0_hw10

def k0_off21 (i : grid0.Coords) : Fin 1 → Nat :=
  let arg0 : BitVec 32 := BitVec.ofNat 32 (i 0).val
  let c64_i32_98 : BitVec 32 := 64#32
  let v210 : BitVec 32 := Scalar.muli arg0 c64_i32_98
  let c10_i32 : BitVec 32 := 10#32
  let v211 : BitVec 32 := Scalar.addi v210 c10_i32
  let v212 : Index := Scalar.indexCast v211
  ![v212.toNat]
def k0_off22 (v213 : BitVec 32) : Fin 1 → Nat :=
  let v214 : Index := Scalar.indexCast v213
  ![v214.toNat]

def k0_chk11 (v213 : BitVec 32) : Prop :=
  (∀ a, (k0_off22 v213) a + S1.size a ≤ S100.size a)
theorem k0_off22_inb : ∀ (v213 : BitVec 32) (k0_hw11 : k0_chk11 v213), ∀ a, (k0_off22 v213) a + S1.size a ≤ S100.size a := fun v213 k0_hw11 => k0_hw11

def k0_off23 (i : grid0.Coords) : Fin 1 → Nat :=
  let arg0 : BitVec 32 := BitVec.ofNat 32 (i 0).val
  let c64_i32_108 : BitVec 32 := 64#32
  let v231 : BitVec 32 := Scalar.muli arg0 c64_i32_108
  let c11_i32 : BitVec 32 := 11#32
  let v232 : BitVec 32 := Scalar.addi v231 c11_i32
  let v233 : Index := Scalar.indexCast v232
  ![v233.toNat]
def k0_off24 (v234 : BitVec 32) : Fin 1 → Nat :=
  let v235 : Index := Scalar.indexCast v234
  ![v235.toNat]

def k0_chk12 (v234 : BitVec 32) : Prop :=
  (∀ a, (k0_off24 v234) a + S1.size a ≤ S100.size a)
theorem k0_off24_inb : ∀ (v234 : BitVec 32) (k0_hw12 : k0_chk12 v234), ∀ a, (k0_off24 v234) a + S1.size a ≤ S100.size a := fun v234 k0_hw12 => k0_hw12

def k0_off25 (i : grid0.Coords) : Fin 1 → Nat :=
  let arg0 : BitVec 32 := BitVec.ofNat 32 (i 0).val
  let c64_i32_118 : BitVec 32 := 64#32
  let v252 : BitVec 32 := Scalar.muli arg0 c64_i32_118
  let c12_i32 : BitVec 32 := 12#32
  let v253 : BitVec 32 := Scalar.addi v252 c12_i32
  let v254 : Index := Scalar.indexCast v253
  ![v254.toNat]
def k0_off26 (v255 : BitVec 32) : Fin 1 → Nat :=
  let v256 : Index := Scalar.indexCast v255
  ![v256.toNat]

def k0_chk13 (v255 : BitVec 32) : Prop :=
  (∀ a, (k0_off26 v255) a + S1.size a ≤ S100.size a)
theorem k0_off26_inb : ∀ (v255 : BitVec 32) (k0_hw13 : k0_chk13 v255), ∀ a, (k0_off26 v255) a + S1.size a ≤ S100.size a := fun v255 k0_hw13 => k0_hw13

def k0_off27 (i : grid0.Coords) : Fin 1 → Nat :=
  let arg0 : BitVec 32 := BitVec.ofNat 32 (i 0).val
  let c64_i32_128 : BitVec 32 := 64#32
  let v273 : BitVec 32 := Scalar.muli arg0 c64_i32_128
  let c13_i32 : BitVec 32 := 13#32
  let v274 : BitVec 32 := Scalar.addi v273 c13_i32
  let v275 : Index := Scalar.indexCast v274
  ![v275.toNat]
def k0_off28 (v276 : BitVec 32) : Fin 1 → Nat :=
  let v277 : Index := Scalar.indexCast v276
  ![v277.toNat]

def k0_chk14 (v276 : BitVec 32) : Prop :=
  (∀ a, (k0_off28 v276) a + S1.size a ≤ S100.size a)
theorem k0_off28_inb : ∀ (v276 : BitVec 32) (k0_hw14 : k0_chk14 v276), ∀ a, (k0_off28 v276) a + S1.size a ≤ S100.size a := fun v276 k0_hw14 => k0_hw14

def k0_off29 (i : grid0.Coords) : Fin 1 → Nat :=
  let arg0 : BitVec 32 := BitVec.ofNat 32 (i 0).val
  let c64_i32_138 : BitVec 32 := 64#32
  let v294 : BitVec 32 := Scalar.muli arg0 c64_i32_138
  let c14_i32 : BitVec 32 := 14#32
  let v295 : BitVec 32 := Scalar.addi v294 c14_i32
  let v296 : Index := Scalar.indexCast v295
  ![v296.toNat]
def k0_off30 (v297 : BitVec 32) : Fin 1 → Nat :=
  let v298 : Index := Scalar.indexCast v297
  ![v298.toNat]

def k0_chk15 (v297 : BitVec 32) : Prop :=
  (∀ a, (k0_off30 v297) a + S1.size a ≤ S100.size a)
theorem k0_off30_inb : ∀ (v297 : BitVec 32) (k0_hw15 : k0_chk15 v297), ∀ a, (k0_off30 v297) a + S1.size a ≤ S100.size a := fun v297 k0_hw15 => k0_hw15

def k0_off31 (i : grid0.Coords) : Fin 1 → Nat :=
  let arg0 : BitVec 32 := BitVec.ofNat 32 (i 0).val
  let c64_i32_148 : BitVec 32 := 64#32
  let v315 : BitVec 32 := Scalar.muli arg0 c64_i32_148
  let c15_i32 : BitVec 32 := 15#32
  let v316 : BitVec 32 := Scalar.addi v315 c15_i32
  let v317 : Index := Scalar.indexCast v316
  ![v317.toNat]
def k0_off32 (v318 : BitVec 32) : Fin 1 → Nat :=
  let v319 : Index := Scalar.indexCast v318
  ![v319.toNat]

def k0_chk16 (v318 : BitVec 32) : Prop :=
  (∀ a, (k0_off32 v318) a + S1.size a ≤ S100.size a)
theorem k0_off32_inb : ∀ (v318 : BitVec 32) (k0_hw16 : k0_chk16 v318), ∀ a, (k0_off32 v318) a + S1.size a ≤ S100.size a := fun v318 k0_hw16 => k0_hw16

def k0_off33 (i : grid0.Coords) : Fin 1 → Nat :=
  let arg0 : BitVec 32 := BitVec.ofNat 32 (i 0).val
  let c64_i32_158 : BitVec 32 := 64#32
  let v336 : BitVec 32 := Scalar.muli arg0 c64_i32_158
  let c16_i32 : BitVec 32 := 16#32
  let v337 : BitVec 32 := Scalar.addi v336 c16_i32
  let v338 : Index := Scalar.indexCast v337
  ![v338.toNat]
def k0_off34 (v339 : BitVec 32) : Fin 1 → Nat :=
  let v340 : Index := Scalar.indexCast v339
  ![v340.toNat]

def k0_chk17 (v339 : BitVec 32) : Prop :=
  (∀ a, (k0_off34 v339) a + S1.size a ≤ S100.size a)
theorem k0_off34_inb : ∀ (v339 : BitVec 32) (k0_hw17 : k0_chk17 v339), ∀ a, (k0_off34 v339) a + S1.size a ≤ S100.size a := fun v339 k0_hw17 => k0_hw17

def k0_off35 (i : grid0.Coords) : Fin 1 → Nat :=
  let arg0 : BitVec 32 := BitVec.ofNat 32 (i 0).val
  let c64_i32_168 : BitVec 32 := 64#32
  let v357 : BitVec 32 := Scalar.muli arg0 c64_i32_168
  let c17_i32 : BitVec 32 := 17#32
  let v358 : BitVec 32 := Scalar.addi v357 c17_i32
  let v359 : Index := Scalar.indexCast v358
  ![v359.toNat]
def k0_off36 (v360 : BitVec 32) : Fin 1 → Nat :=
  let v361 : Index := Scalar.indexCast v360
  ![v361.toNat]

def k0_chk18 (v360 : BitVec 32) : Prop :=
  (∀ a, (k0_off36 v360) a + S1.size a ≤ S100.size a)
theorem k0_off36_inb : ∀ (v360 : BitVec 32) (k0_hw18 : k0_chk18 v360), ∀ a, (k0_off36 v360) a + S1.size a ≤ S100.size a := fun v360 k0_hw18 => k0_hw18

def k0_off37 (i : grid0.Coords) : Fin 1 → Nat :=
  let arg0 : BitVec 32 := BitVec.ofNat 32 (i 0).val
  let c64_i32_178 : BitVec 32 := 64#32
  let v378 : BitVec 32 := Scalar.muli arg0 c64_i32_178
  let c18_i32 : BitVec 32 := 18#32
  let v379 : BitVec 32 := Scalar.addi v378 c18_i32
  let v380 : Index := Scalar.indexCast v379
  ![v380.toNat]
def k0_off38 (v381 : BitVec 32) : Fin 1 → Nat :=
  let v382 : Index := Scalar.indexCast v381
  ![v382.toNat]

def k0_chk19 (v381 : BitVec 32) : Prop :=
  (∀ a, (k0_off38 v381) a + S1.size a ≤ S100.size a)
theorem k0_off38_inb : ∀ (v381 : BitVec 32) (k0_hw19 : k0_chk19 v381), ∀ a, (k0_off38 v381) a + S1.size a ≤ S100.size a := fun v381 k0_hw19 => k0_hw19

def k0_off39 (i : grid0.Coords) : Fin 1 → Nat :=
  let arg0 : BitVec 32 := BitVec.ofNat 32 (i 0).val
  let c64_i32_188 : BitVec 32 := 64#32
  let v399 : BitVec 32 := Scalar.muli arg0 c64_i32_188
  let c19_i32 : BitVec 32 := 19#32
  let v400 : BitVec 32 := Scalar.addi v399 c19_i32
  let v401 : Index := Scalar.indexCast v400
  ![v401.toNat]
def k0_off40 (v402 : BitVec 32) : Fin 1 → Nat :=
  let v403 : Index := Scalar.indexCast v402
  ![v403.toNat]

def k0_chk20 (v402 : BitVec 32) : Prop :=
  (∀ a, (k0_off40 v402) a + S1.size a ≤ S100.size a)
theorem k0_off40_inb : ∀ (v402 : BitVec 32) (k0_hw20 : k0_chk20 v402), ∀ a, (k0_off40 v402) a + S1.size a ≤ S100.size a := fun v402 k0_hw20 => k0_hw20

def k0_off41 (i : grid0.Coords) : Fin 1 → Nat :=
  let arg0 : BitVec 32 := BitVec.ofNat 32 (i 0).val
  let c64_i32_198 : BitVec 32 := 64#32
  let v420 : BitVec 32 := Scalar.muli arg0 c64_i32_198
  let c20_i32 : BitVec 32 := 20#32
  let v421 : BitVec 32 := Scalar.addi v420 c20_i32
  let v422 : Index := Scalar.indexCast v421
  ![v422.toNat]
def k0_off42 (v423 : BitVec 32) : Fin 1 → Nat :=
  let v424 : Index := Scalar.indexCast v423
  ![v424.toNat]

def k0_chk21 (v423 : BitVec 32) : Prop :=
  (∀ a, (k0_off42 v423) a + S1.size a ≤ S100.size a)
theorem k0_off42_inb : ∀ (v423 : BitVec 32) (k0_hw21 : k0_chk21 v423), ∀ a, (k0_off42 v423) a + S1.size a ≤ S100.size a := fun v423 k0_hw21 => k0_hw21

def k0_off43 (i : grid0.Coords) : Fin 1 → Nat :=
  let arg0 : BitVec 32 := BitVec.ofNat 32 (i 0).val
  let c64_i32_208 : BitVec 32 := 64#32
  let v441 : BitVec 32 := Scalar.muli arg0 c64_i32_208
  let c21_i32 : BitVec 32 := 21#32
  let v442 : BitVec 32 := Scalar.addi v441 c21_i32
  let v443 : Index := Scalar.indexCast v442
  ![v443.toNat]
def k0_off44 (v444 : BitVec 32) : Fin 1 → Nat :=
  let v445 : Index := Scalar.indexCast v444
  ![v445.toNat]

def k0_chk22 (v444 : BitVec 32) : Prop :=
  (∀ a, (k0_off44 v444) a + S1.size a ≤ S100.size a)
theorem k0_off44_inb : ∀ (v444 : BitVec 32) (k0_hw22 : k0_chk22 v444), ∀ a, (k0_off44 v444) a + S1.size a ≤ S100.size a := fun v444 k0_hw22 => k0_hw22

def k0_off45 (i : grid0.Coords) : Fin 1 → Nat :=
  let arg0 : BitVec 32 := BitVec.ofNat 32 (i 0).val
  let c64_i32_218 : BitVec 32 := 64#32
  let v462 : BitVec 32 := Scalar.muli arg0 c64_i32_218
  let c22_i32 : BitVec 32 := 22#32
  let v463 : BitVec 32 := Scalar.addi v462 c22_i32
  let v464 : Index := Scalar.indexCast v463
  ![v464.toNat]
def k0_off46 (v465 : BitVec 32) : Fin 1 → Nat :=
  let v466 : Index := Scalar.indexCast v465
  ![v466.toNat]

def k0_chk23 (v465 : BitVec 32) : Prop :=
  (∀ a, (k0_off46 v465) a + S1.size a ≤ S100.size a)
theorem k0_off46_inb : ∀ (v465 : BitVec 32) (k0_hw23 : k0_chk23 v465), ∀ a, (k0_off46 v465) a + S1.size a ≤ S100.size a := fun v465 k0_hw23 => k0_hw23

def k0_off47 (i : grid0.Coords) : Fin 1 → Nat :=
  let arg0 : BitVec 32 := BitVec.ofNat 32 (i 0).val
  let c64_i32_228 : BitVec 32 := 64#32
  let v483 : BitVec 32 := Scalar.muli arg0 c64_i32_228
  let c23_i32 : BitVec 32 := 23#32
  let v484 : BitVec 32 := Scalar.addi v483 c23_i32
  let v485 : Index := Scalar.indexCast v484
  ![v485.toNat]
def k0_off48 (v486 : BitVec 32) : Fin 1 → Nat :=
  let v487 : Index := Scalar.indexCast v486
  ![v487.toNat]

def k0_chk24 (v486 : BitVec 32) : Prop :=
  (∀ a, (k0_off48 v486) a + S1.size a ≤ S100.size a)
theorem k0_off48_inb : ∀ (v486 : BitVec 32) (k0_hw24 : k0_chk24 v486), ∀ a, (k0_off48 v486) a + S1.size a ≤ S100.size a := fun v486 k0_hw24 => k0_hw24

def k0_off49 (i : grid0.Coords) : Fin 1 → Nat :=
  let arg0 : BitVec 32 := BitVec.ofNat 32 (i 0).val
  let c64_i32_238 : BitVec 32 := 64#32
  let v504 : BitVec 32 := Scalar.muli arg0 c64_i32_238
  let c24_i32 : BitVec 32 := 24#32
  let v505 : BitVec 32 := Scalar.addi v504 c24_i32
  let v506 : Index := Scalar.indexCast v505
  ![v506.toNat]
def k0_off50 (v507 : BitVec 32) : Fin 1 → Nat :=
  let v508 : Index := Scalar.indexCast v507
  ![v508.toNat]

def k0_chk25 (v507 : BitVec 32) : Prop :=
  (∀ a, (k0_off50 v507) a + S1.size a ≤ S100.size a)
theorem k0_off50_inb : ∀ (v507 : BitVec 32) (k0_hw25 : k0_chk25 v507), ∀ a, (k0_off50 v507) a + S1.size a ≤ S100.size a := fun v507 k0_hw25 => k0_hw25

def k0_off51 (i : grid0.Coords) : Fin 1 → Nat :=
  let arg0 : BitVec 32 := BitVec.ofNat 32 (i 0).val
  let c64_i32_248 : BitVec 32 := 64#32
  let v525 : BitVec 32 := Scalar.muli arg0 c64_i32_248
  let c25_i32 : BitVec 32 := 25#32
  let v526 : BitVec 32 := Scalar.addi v525 c25_i32
  let v527 : Index := Scalar.indexCast v526
  ![v527.toNat]
def k0_off52 (v528 : BitVec 32) : Fin 1 → Nat :=
  let v529 : Index := Scalar.indexCast v528
  ![v529.toNat]

def k0_chk26 (v528 : BitVec 32) : Prop :=
  (∀ a, (k0_off52 v528) a + S1.size a ≤ S100.size a)
theorem k0_off52_inb : ∀ (v528 : BitVec 32) (k0_hw26 : k0_chk26 v528), ∀ a, (k0_off52 v528) a + S1.size a ≤ S100.size a := fun v528 k0_hw26 => k0_hw26

def k0_off53 (i : grid0.Coords) : Fin 1 → Nat :=
  let arg0 : BitVec 32 := BitVec.ofNat 32 (i 0).val
  let c64_i32_258 : BitVec 32 := 64#32
  let v546 : BitVec 32 := Scalar.muli arg0 c64_i32_258
  let c26_i32 : BitVec 32 := 26#32
  let v547 : BitVec 32 := Scalar.addi v546 c26_i32
  let v548 : Index := Scalar.indexCast v547
  ![v548.toNat]
def k0_off54 (v549 : BitVec 32) : Fin 1 → Nat :=
  let v550 : Index := Scalar.indexCast v549
  ![v550.toNat]

def k0_chk27 (v549 : BitVec 32) : Prop :=
  (∀ a, (k0_off54 v549) a + S1.size a ≤ S100.size a)
theorem k0_off54_inb : ∀ (v549 : BitVec 32) (k0_hw27 : k0_chk27 v549), ∀ a, (k0_off54 v549) a + S1.size a ≤ S100.size a := fun v549 k0_hw27 => k0_hw27

def k0_off55 (i : grid0.Coords) : Fin 1 → Nat :=
  let arg0 : BitVec 32 := BitVec.ofNat 32 (i 0).val
  let c64_i32_268 : BitVec 32 := 64#32
  let v567 : BitVec 32 := Scalar.muli arg0 c64_i32_268
  let c27_i32 : BitVec 32 := 27#32
  let v568 : BitVec 32 := Scalar.addi v567 c27_i32
  let v569 : Index := Scalar.indexCast v568
  ![v569.toNat]
def k0_off56 (v570 : BitVec 32) : Fin 1 → Nat :=
  let v571 : Index := Scalar.indexCast v570
  ![v571.toNat]

def k0_chk28 (v570 : BitVec 32) : Prop :=
  (∀ a, (k0_off56 v570) a + S1.size a ≤ S100.size a)
theorem k0_off56_inb : ∀ (v570 : BitVec 32) (k0_hw28 : k0_chk28 v570), ∀ a, (k0_off56 v570) a + S1.size a ≤ S100.size a := fun v570 k0_hw28 => k0_hw28

def k0_off57 (i : grid0.Coords) : Fin 1 → Nat :=
  let arg0 : BitVec 32 := BitVec.ofNat 32 (i 0).val
  let c64_i32_278 : BitVec 32 := 64#32
  let v588 : BitVec 32 := Scalar.muli arg0 c64_i32_278
  let c28_i32 : BitVec 32 := 28#32
  let v589 : BitVec 32 := Scalar.addi v588 c28_i32
  let v590 : Index := Scalar.indexCast v589
  ![v590.toNat]
def k0_off58 (v591 : BitVec 32) : Fin 1 → Nat :=
  let v592 : Index := Scalar.indexCast v591
  ![v592.toNat]

def k0_chk29 (v591 : BitVec 32) : Prop :=
  (∀ a, (k0_off58 v591) a + S1.size a ≤ S100.size a)
theorem k0_off58_inb : ∀ (v591 : BitVec 32) (k0_hw29 : k0_chk29 v591), ∀ a, (k0_off58 v591) a + S1.size a ≤ S100.size a := fun v591 k0_hw29 => k0_hw29

def k0_off59 (i : grid0.Coords) : Fin 1 → Nat :=
  let arg0 : BitVec 32 := BitVec.ofNat 32 (i 0).val
  let c64_i32_288 : BitVec 32 := 64#32
  let v609 : BitVec 32 := Scalar.muli arg0 c64_i32_288
  let c29_i32 : BitVec 32 := 29#32
  let v610 : BitVec 32 := Scalar.addi v609 c29_i32
  let v611 : Index := Scalar.indexCast v610
  ![v611.toNat]
def k0_off60 (v612 : BitVec 32) : Fin 1 → Nat :=
  let v613 : Index := Scalar.indexCast v612
  ![v613.toNat]

def k0_chk30 (v612 : BitVec 32) : Prop :=
  (∀ a, (k0_off60 v612) a + S1.size a ≤ S100.size a)
theorem k0_off60_inb : ∀ (v612 : BitVec 32) (k0_hw30 : k0_chk30 v612), ∀ a, (k0_off60 v612) a + S1.size a ≤ S100.size a := fun v612 k0_hw30 => k0_hw30

def k0_off61 (i : grid0.Coords) : Fin 1 → Nat :=
  let arg0 : BitVec 32 := BitVec.ofNat 32 (i 0).val
  let c64_i32_298 : BitVec 32 := 64#32
  let v630 : BitVec 32 := Scalar.muli arg0 c64_i32_298
  let c30_i32 : BitVec 32 := 30#32
  let v631 : BitVec 32 := Scalar.addi v630 c30_i32
  let v632 : Index := Scalar.indexCast v631
  ![v632.toNat]
def k0_off62 (v633 : BitVec 32) : Fin 1 → Nat :=
  let v634 : Index := Scalar.indexCast v633
  ![v634.toNat]

def k0_chk31 (v633 : BitVec 32) : Prop :=
  (∀ a, (k0_off62 v633) a + S1.size a ≤ S100.size a)
theorem k0_off62_inb : ∀ (v633 : BitVec 32) (k0_hw31 : k0_chk31 v633), ∀ a, (k0_off62 v633) a + S1.size a ≤ S100.size a := fun v633 k0_hw31 => k0_hw31

def k0_off63 (i : grid0.Coords) : Fin 1 → Nat :=
  let arg0 : BitVec 32 := BitVec.ofNat 32 (i 0).val
  let c64_i32_308 : BitVec 32 := 64#32
  let v651 : BitVec 32 := Scalar.muli arg0 c64_i32_308
  let c31_i32 : BitVec 32 := 31#32
  let v652 : BitVec 32 := Scalar.addi v651 c31_i32
  let v653 : Index := Scalar.indexCast v652
  ![v653.toNat]
def k0_off64 (v654 : BitVec 32) : Fin 1 → Nat :=
  let v655 : Index := Scalar.indexCast v654
  ![v655.toNat]

def k0_chk32 (v654 : BitVec 32) : Prop :=
  (∀ a, (k0_off64 v654) a + S1.size a ≤ S100.size a)
theorem k0_off64_inb : ∀ (v654 : BitVec 32) (k0_hw32 : k0_chk32 v654), ∀ a, (k0_off64 v654) a + S1.size a ≤ S100.size a := fun v654 k0_hw32 => k0_hw32

def k0_off65 (i : grid0.Coords) : Fin 1 → Nat :=
  let arg0 : BitVec 32 := BitVec.ofNat 32 (i 0).val
  let c64_i32_318 : BitVec 32 := 64#32
  let v672 : BitVec 32 := Scalar.muli arg0 c64_i32_318
  let c32_i32 : BitVec 32 := 32#32
  let v673 : BitVec 32 := Scalar.addi v672 c32_i32
  let v674 : Index := Scalar.indexCast v673
  ![v674.toNat]
def k0_off66 (v675 : BitVec 32) : Fin 1 → Nat :=
  let v676 : Index := Scalar.indexCast v675
  ![v676.toNat]

def k0_chk33 (v675 : BitVec 32) : Prop :=
  (∀ a, (k0_off66 v675) a + S1.size a ≤ S100.size a)
theorem k0_off66_inb : ∀ (v675 : BitVec 32) (k0_hw33 : k0_chk33 v675), ∀ a, (k0_off66 v675) a + S1.size a ≤ S100.size a := fun v675 k0_hw33 => k0_hw33

def k0_off67 (i : grid0.Coords) : Fin 1 → Nat :=
  let arg0 : BitVec 32 := BitVec.ofNat 32 (i 0).val
  let c64_i32_328 : BitVec 32 := 64#32
  let v693 : BitVec 32 := Scalar.muli arg0 c64_i32_328
  let c33_i32 : BitVec 32 := 33#32
  let v694 : BitVec 32 := Scalar.addi v693 c33_i32
  let v695 : Index := Scalar.indexCast v694
  ![v695.toNat]
def k0_off68 (v696 : BitVec 32) : Fin 1 → Nat :=
  let v697 : Index := Scalar.indexCast v696
  ![v697.toNat]

def k0_chk34 (v696 : BitVec 32) : Prop :=
  (∀ a, (k0_off68 v696) a + S1.size a ≤ S100.size a)
theorem k0_off68_inb : ∀ (v696 : BitVec 32) (k0_hw34 : k0_chk34 v696), ∀ a, (k0_off68 v696) a + S1.size a ≤ S100.size a := fun v696 k0_hw34 => k0_hw34

def k0_off69 (i : grid0.Coords) : Fin 1 → Nat :=
  let arg0 : BitVec 32 := BitVec.ofNat 32 (i 0).val
  let c64_i32_338 : BitVec 32 := 64#32
  let v714 : BitVec 32 := Scalar.muli arg0 c64_i32_338
  let c34_i32 : BitVec 32 := 34#32
  let v715 : BitVec 32 := Scalar.addi v714 c34_i32
  let v716 : Index := Scalar.indexCast v715
  ![v716.toNat]
def k0_off70 (v717 : BitVec 32) : Fin 1 → Nat :=
  let v718 : Index := Scalar.indexCast v717
  ![v718.toNat]

def k0_chk35 (v717 : BitVec 32) : Prop :=
  (∀ a, (k0_off70 v717) a + S1.size a ≤ S100.size a)
theorem k0_off70_inb : ∀ (v717 : BitVec 32) (k0_hw35 : k0_chk35 v717), ∀ a, (k0_off70 v717) a + S1.size a ≤ S100.size a := fun v717 k0_hw35 => k0_hw35

def k0_off71 (i : grid0.Coords) : Fin 1 → Nat :=
  let arg0 : BitVec 32 := BitVec.ofNat 32 (i 0).val
  let c64_i32_348 : BitVec 32 := 64#32
  let v735 : BitVec 32 := Scalar.muli arg0 c64_i32_348
  let c35_i32 : BitVec 32 := 35#32
  let v736 : BitVec 32 := Scalar.addi v735 c35_i32
  let v737 : Index := Scalar.indexCast v736
  ![v737.toNat]
def k0_off72 (v738 : BitVec 32) : Fin 1 → Nat :=
  let v739 : Index := Scalar.indexCast v738
  ![v739.toNat]

def k0_chk36 (v738 : BitVec 32) : Prop :=
  (∀ a, (k0_off72 v738) a + S1.size a ≤ S100.size a)
theorem k0_off72_inb : ∀ (v738 : BitVec 32) (k0_hw36 : k0_chk36 v738), ∀ a, (k0_off72 v738) a + S1.size a ≤ S100.size a := fun v738 k0_hw36 => k0_hw36

def k0_off73 (i : grid0.Coords) : Fin 1 → Nat :=
  let arg0 : BitVec 32 := BitVec.ofNat 32 (i 0).val
  let c64_i32_358 : BitVec 32 := 64#32
  let v756 : BitVec 32 := Scalar.muli arg0 c64_i32_358
  let c36_i32 : BitVec 32 := 36#32
  let v757 : BitVec 32 := Scalar.addi v756 c36_i32
  let v758 : Index := Scalar.indexCast v757
  ![v758.toNat]
def k0_off74 (v759 : BitVec 32) : Fin 1 → Nat :=
  let v760 : Index := Scalar.indexCast v759
  ![v760.toNat]

def k0_chk37 (v759 : BitVec 32) : Prop :=
  (∀ a, (k0_off74 v759) a + S1.size a ≤ S100.size a)
theorem k0_off74_inb : ∀ (v759 : BitVec 32) (k0_hw37 : k0_chk37 v759), ∀ a, (k0_off74 v759) a + S1.size a ≤ S100.size a := fun v759 k0_hw37 => k0_hw37

def k0_off75 (i : grid0.Coords) : Fin 1 → Nat :=
  let arg0 : BitVec 32 := BitVec.ofNat 32 (i 0).val
  let c64_i32_368 : BitVec 32 := 64#32
  let v777 : BitVec 32 := Scalar.muli arg0 c64_i32_368
  let c37_i32 : BitVec 32 := 37#32
  let v778 : BitVec 32 := Scalar.addi v777 c37_i32
  let v779 : Index := Scalar.indexCast v778
  ![v779.toNat]
def k0_off76 (v780 : BitVec 32) : Fin 1 → Nat :=
  let v781 : Index := Scalar.indexCast v780
  ![v781.toNat]

def k0_chk38 (v780 : BitVec 32) : Prop :=
  (∀ a, (k0_off76 v780) a + S1.size a ≤ S100.size a)
theorem k0_off76_inb : ∀ (v780 : BitVec 32) (k0_hw38 : k0_chk38 v780), ∀ a, (k0_off76 v780) a + S1.size a ≤ S100.size a := fun v780 k0_hw38 => k0_hw38

def k0_off77 (i : grid0.Coords) : Fin 1 → Nat :=
  let arg0 : BitVec 32 := BitVec.ofNat 32 (i 0).val
  let c64_i32_378 : BitVec 32 := 64#32
  let v798 : BitVec 32 := Scalar.muli arg0 c64_i32_378
  let c38_i32 : BitVec 32 := 38#32
  let v799 : BitVec 32 := Scalar.addi v798 c38_i32
  let v800 : Index := Scalar.indexCast v799
  ![v800.toNat]
def k0_off78 (v801 : BitVec 32) : Fin 1 → Nat :=
  let v802 : Index := Scalar.indexCast v801
  ![v802.toNat]

def k0_chk39 (v801 : BitVec 32) : Prop :=
  (∀ a, (k0_off78 v801) a + S1.size a ≤ S100.size a)
theorem k0_off78_inb : ∀ (v801 : BitVec 32) (k0_hw39 : k0_chk39 v801), ∀ a, (k0_off78 v801) a + S1.size a ≤ S100.size a := fun v801 k0_hw39 => k0_hw39

def k0_off79 (i : grid0.Coords) : Fin 1 → Nat :=
  let arg0 : BitVec 32 := BitVec.ofNat 32 (i 0).val
  let c64_i32_388 : BitVec 32 := 64#32
  let v819 : BitVec 32 := Scalar.muli arg0 c64_i32_388
  let c39_i32 : BitVec 32 := 39#32
  let v820 : BitVec 32 := Scalar.addi v819 c39_i32
  let v821 : Index := Scalar.indexCast v820
  ![v821.toNat]
def k0_off80 (v822 : BitVec 32) : Fin 1 → Nat :=
  let v823 : Index := Scalar.indexCast v822
  ![v823.toNat]

def k0_chk40 (v822 : BitVec 32) : Prop :=
  (∀ a, (k0_off80 v822) a + S1.size a ≤ S100.size a)
theorem k0_off80_inb : ∀ (v822 : BitVec 32) (k0_hw40 : k0_chk40 v822), ∀ a, (k0_off80 v822) a + S1.size a ≤ S100.size a := fun v822 k0_hw40 => k0_hw40

def k0_off81 (i : grid0.Coords) : Fin 1 → Nat :=
  let arg0 : BitVec 32 := BitVec.ofNat 32 (i 0).val
  let c64_i32_398 : BitVec 32 := 64#32
  let v840 : BitVec 32 := Scalar.muli arg0 c64_i32_398
  let c40_i32 : BitVec 32 := 40#32
  let v841 : BitVec 32 := Scalar.addi v840 c40_i32
  let v842 : Index := Scalar.indexCast v841
  ![v842.toNat]
def k0_off82 (v843 : BitVec 32) : Fin 1 → Nat :=
  let v844 : Index := Scalar.indexCast v843
  ![v844.toNat]

def k0_chk41 (v843 : BitVec 32) : Prop :=
  (∀ a, (k0_off82 v843) a + S1.size a ≤ S100.size a)
theorem k0_off82_inb : ∀ (v843 : BitVec 32) (k0_hw41 : k0_chk41 v843), ∀ a, (k0_off82 v843) a + S1.size a ≤ S100.size a := fun v843 k0_hw41 => k0_hw41

def k0_off83 (i : grid0.Coords) : Fin 1 → Nat :=
  let arg0 : BitVec 32 := BitVec.ofNat 32 (i 0).val
  let c64_i32_408 : BitVec 32 := 64#32
  let v861 : BitVec 32 := Scalar.muli arg0 c64_i32_408
  let c41_i32 : BitVec 32 := 41#32
  let v862 : BitVec 32 := Scalar.addi v861 c41_i32
  let v863 : Index := Scalar.indexCast v862
  ![v863.toNat]
def k0_off84 (v864 : BitVec 32) : Fin 1 → Nat :=
  let v865 : Index := Scalar.indexCast v864
  ![v865.toNat]

def k0_chk42 (v864 : BitVec 32) : Prop :=
  (∀ a, (k0_off84 v864) a + S1.size a ≤ S100.size a)
theorem k0_off84_inb : ∀ (v864 : BitVec 32) (k0_hw42 : k0_chk42 v864), ∀ a, (k0_off84 v864) a + S1.size a ≤ S100.size a := fun v864 k0_hw42 => k0_hw42

def k0_off85 (i : grid0.Coords) : Fin 1 → Nat :=
  let arg0 : BitVec 32 := BitVec.ofNat 32 (i 0).val
  let c64_i32_418 : BitVec 32 := 64#32
  let v882 : BitVec 32 := Scalar.muli arg0 c64_i32_418
  let c42_i32 : BitVec 32 := 42#32
  let v883 : BitVec 32 := Scalar.addi v882 c42_i32
  let v884 : Index := Scalar.indexCast v883
  ![v884.toNat]
def k0_off86 (v885 : BitVec 32) : Fin 1 → Nat :=
  let v886 : Index := Scalar.indexCast v885
  ![v886.toNat]

def k0_chk43 (v885 : BitVec 32) : Prop :=
  (∀ a, (k0_off86 v885) a + S1.size a ≤ S100.size a)
theorem k0_off86_inb : ∀ (v885 : BitVec 32) (k0_hw43 : k0_chk43 v885), ∀ a, (k0_off86 v885) a + S1.size a ≤ S100.size a := fun v885 k0_hw43 => k0_hw43

def k0_off87 (i : grid0.Coords) : Fin 1 → Nat :=
  let arg0 : BitVec 32 := BitVec.ofNat 32 (i 0).val
  let c64_i32_428 : BitVec 32 := 64#32
  let v903 : BitVec 32 := Scalar.muli arg0 c64_i32_428
  let c43_i32 : BitVec 32 := 43#32
  let v904 : BitVec 32 := Scalar.addi v903 c43_i32
  let v905 : Index := Scalar.indexCast v904
  ![v905.toNat]
def k0_off88 (v906 : BitVec 32) : Fin 1 → Nat :=
  let v907 : Index := Scalar.indexCast v906
  ![v907.toNat]

def k0_chk44 (v906 : BitVec 32) : Prop :=
  (∀ a, (k0_off88 v906) a + S1.size a ≤ S100.size a)
theorem k0_off88_inb : ∀ (v906 : BitVec 32) (k0_hw44 : k0_chk44 v906), ∀ a, (k0_off88 v906) a + S1.size a ≤ S100.size a := fun v906 k0_hw44 => k0_hw44

def k0_off89 (i : grid0.Coords) : Fin 1 → Nat :=
  let arg0 : BitVec 32 := BitVec.ofNat 32 (i 0).val
  let c64_i32_438 : BitVec 32 := 64#32
  let v924 : BitVec 32 := Scalar.muli arg0 c64_i32_438
  let c44_i32 : BitVec 32 := 44#32
  let v925 : BitVec 32 := Scalar.addi v924 c44_i32
  let v926 : Index := Scalar.indexCast v925
  ![v926.toNat]
def k0_off90 (v927 : BitVec 32) : Fin 1 → Nat :=
  let v928 : Index := Scalar.indexCast v927
  ![v928.toNat]

def k0_chk45 (v927 : BitVec 32) : Prop :=
  (∀ a, (k0_off90 v927) a + S1.size a ≤ S100.size a)
theorem k0_off90_inb : ∀ (v927 : BitVec 32) (k0_hw45 : k0_chk45 v927), ∀ a, (k0_off90 v927) a + S1.size a ≤ S100.size a := fun v927 k0_hw45 => k0_hw45

def k0_off91 (i : grid0.Coords) : Fin 1 → Nat :=
  let arg0 : BitVec 32 := BitVec.ofNat 32 (i 0).val
  let c64_i32_448 : BitVec 32 := 64#32
  let v945 : BitVec 32 := Scalar.muli arg0 c64_i32_448
  let c45_i32 : BitVec 32 := 45#32
  let v946 : BitVec 32 := Scalar.addi v945 c45_i32
  let v947 : Index := Scalar.indexCast v946
  ![v947.toNat]
def k0_off92 (v948 : BitVec 32) : Fin 1 → Nat :=
  let v949 : Index := Scalar.indexCast v948
  ![v949.toNat]

def k0_chk46 (v948 : BitVec 32) : Prop :=
  (∀ a, (k0_off92 v948) a + S1.size a ≤ S100.size a)
theorem k0_off92_inb : ∀ (v948 : BitVec 32) (k0_hw46 : k0_chk46 v948), ∀ a, (k0_off92 v948) a + S1.size a ≤ S100.size a := fun v948 k0_hw46 => k0_hw46

def k0_off93 (i : grid0.Coords) : Fin 1 → Nat :=
  let arg0 : BitVec 32 := BitVec.ofNat 32 (i 0).val
  let c64_i32_458 : BitVec 32 := 64#32
  let v966 : BitVec 32 := Scalar.muli arg0 c64_i32_458
  let c46_i32 : BitVec 32 := 46#32
  let v967 : BitVec 32 := Scalar.addi v966 c46_i32
  let v968 : Index := Scalar.indexCast v967
  ![v968.toNat]
def k0_off94 (v969 : BitVec 32) : Fin 1 → Nat :=
  let v970 : Index := Scalar.indexCast v969
  ![v970.toNat]

def k0_chk47 (v969 : BitVec 32) : Prop :=
  (∀ a, (k0_off94 v969) a + S1.size a ≤ S100.size a)
theorem k0_off94_inb : ∀ (v969 : BitVec 32) (k0_hw47 : k0_chk47 v969), ∀ a, (k0_off94 v969) a + S1.size a ≤ S100.size a := fun v969 k0_hw47 => k0_hw47

def k0_off95 (i : grid0.Coords) : Fin 1 → Nat :=
  let arg0 : BitVec 32 := BitVec.ofNat 32 (i 0).val
  let c64_i32_468 : BitVec 32 := 64#32
  let v987 : BitVec 32 := Scalar.muli arg0 c64_i32_468
  let c47_i32 : BitVec 32 := 47#32
  let v988 : BitVec 32 := Scalar.addi v987 c47_i32
  let v989 : Index := Scalar.indexCast v988
  ![v989.toNat]
def k0_off96 (v990 : BitVec 32) : Fin 1 → Nat :=
  let v991 : Index := Scalar.indexCast v990
  ![v991.toNat]

def k0_chk48 (v990 : BitVec 32) : Prop :=
  (∀ a, (k0_off96 v990) a + S1.size a ≤ S100.size a)
theorem k0_off96_inb : ∀ (v990 : BitVec 32) (k0_hw48 : k0_chk48 v990), ∀ a, (k0_off96 v990) a + S1.size a ≤ S100.size a := fun v990 k0_hw48 => k0_hw48

def k0_off97 (i : grid0.Coords) : Fin 1 → Nat :=
  let arg0 : BitVec 32 := BitVec.ofNat 32 (i 0).val
  let c64_i32_478 : BitVec 32 := 64#32
  let v1008 : BitVec 32 := Scalar.muli arg0 c64_i32_478
  let c48_i32 : BitVec 32 := 48#32
  let v1009 : BitVec 32 := Scalar.addi v1008 c48_i32
  let v1010 : Index := Scalar.indexCast v1009
  ![v1010.toNat]
def k0_off98 (v1011 : BitVec 32) : Fin 1 → Nat :=
  let v1012 : Index := Scalar.indexCast v1011
  ![v1012.toNat]

def k0_chk49 (v1011 : BitVec 32) : Prop :=
  (∀ a, (k0_off98 v1011) a + S1.size a ≤ S100.size a)
theorem k0_off98_inb : ∀ (v1011 : BitVec 32) (k0_hw49 : k0_chk49 v1011), ∀ a, (k0_off98 v1011) a + S1.size a ≤ S100.size a := fun v1011 k0_hw49 => k0_hw49

def k0_off99 (i : grid0.Coords) : Fin 1 → Nat :=
  let arg0 : BitVec 32 := BitVec.ofNat 32 (i 0).val
  let c64_i32_488 : BitVec 32 := 64#32
  let v1029 : BitVec 32 := Scalar.muli arg0 c64_i32_488
  let c49_i32 : BitVec 32 := 49#32
  let v1030 : BitVec 32 := Scalar.addi v1029 c49_i32
  let v1031 : Index := Scalar.indexCast v1030
  ![v1031.toNat]
def k0_off100 (v1032 : BitVec 32) : Fin 1 → Nat :=
  let v1033 : Index := Scalar.indexCast v1032
  ![v1033.toNat]

def k0_chk50 (v1032 : BitVec 32) : Prop :=
  (∀ a, (k0_off100 v1032) a + S1.size a ≤ S100.size a)
theorem k0_off100_inb : ∀ (v1032 : BitVec 32) (k0_hw50 : k0_chk50 v1032), ∀ a, (k0_off100 v1032) a + S1.size a ≤ S100.size a := fun v1032 k0_hw50 => k0_hw50

def k0_off101 (i : grid0.Coords) : Fin 1 → Nat :=
  let arg0 : BitVec 32 := BitVec.ofNat 32 (i 0).val
  let c64_i32_498 : BitVec 32 := 64#32
  let v1050 : BitVec 32 := Scalar.muli arg0 c64_i32_498
  let c50_i32 : BitVec 32 := 50#32
  let v1051 : BitVec 32 := Scalar.addi v1050 c50_i32
  let v1052 : Index := Scalar.indexCast v1051
  ![v1052.toNat]
def k0_off102 (v1053 : BitVec 32) : Fin 1 → Nat :=
  let v1054 : Index := Scalar.indexCast v1053
  ![v1054.toNat]

def k0_chk51 (v1053 : BitVec 32) : Prop :=
  (∀ a, (k0_off102 v1053) a + S1.size a ≤ S100.size a)
theorem k0_off102_inb : ∀ (v1053 : BitVec 32) (k0_hw51 : k0_chk51 v1053), ∀ a, (k0_off102 v1053) a + S1.size a ≤ S100.size a := fun v1053 k0_hw51 => k0_hw51

def k0_off103 (i : grid0.Coords) : Fin 1 → Nat :=
  let arg0 : BitVec 32 := BitVec.ofNat 32 (i 0).val
  let c64_i32_508 : BitVec 32 := 64#32
  let v1071 : BitVec 32 := Scalar.muli arg0 c64_i32_508
  let c51_i32 : BitVec 32 := 51#32
  let v1072 : BitVec 32 := Scalar.addi v1071 c51_i32
  let v1073 : Index := Scalar.indexCast v1072
  ![v1073.toNat]
def k0_off104 (v1074 : BitVec 32) : Fin 1 → Nat :=
  let v1075 : Index := Scalar.indexCast v1074
  ![v1075.toNat]

def k0_chk52 (v1074 : BitVec 32) : Prop :=
  (∀ a, (k0_off104 v1074) a + S1.size a ≤ S100.size a)
theorem k0_off104_inb : ∀ (v1074 : BitVec 32) (k0_hw52 : k0_chk52 v1074), ∀ a, (k0_off104 v1074) a + S1.size a ≤ S100.size a := fun v1074 k0_hw52 => k0_hw52

def k0_off105 (i : grid0.Coords) : Fin 1 → Nat :=
  let arg0 : BitVec 32 := BitVec.ofNat 32 (i 0).val
  let c64_i32_518 : BitVec 32 := 64#32
  let v1092 : BitVec 32 := Scalar.muli arg0 c64_i32_518
  let c52_i32 : BitVec 32 := 52#32
  let v1093 : BitVec 32 := Scalar.addi v1092 c52_i32
  let v1094 : Index := Scalar.indexCast v1093
  ![v1094.toNat]
def k0_off106 (v1095 : BitVec 32) : Fin 1 → Nat :=
  let v1096 : Index := Scalar.indexCast v1095
  ![v1096.toNat]

def k0_chk53 (v1095 : BitVec 32) : Prop :=
  (∀ a, (k0_off106 v1095) a + S1.size a ≤ S100.size a)
theorem k0_off106_inb : ∀ (v1095 : BitVec 32) (k0_hw53 : k0_chk53 v1095), ∀ a, (k0_off106 v1095) a + S1.size a ≤ S100.size a := fun v1095 k0_hw53 => k0_hw53

def k0_off107 (i : grid0.Coords) : Fin 1 → Nat :=
  let arg0 : BitVec 32 := BitVec.ofNat 32 (i 0).val
  let c64_i32_528 : BitVec 32 := 64#32
  let v1113 : BitVec 32 := Scalar.muli arg0 c64_i32_528
  let c53_i32 : BitVec 32 := 53#32
  let v1114 : BitVec 32 := Scalar.addi v1113 c53_i32
  let v1115 : Index := Scalar.indexCast v1114
  ![v1115.toNat]
def k0_off108 (v1116 : BitVec 32) : Fin 1 → Nat :=
  let v1117 : Index := Scalar.indexCast v1116
  ![v1117.toNat]

def k0_chk54 (v1116 : BitVec 32) : Prop :=
  (∀ a, (k0_off108 v1116) a + S1.size a ≤ S100.size a)
theorem k0_off108_inb : ∀ (v1116 : BitVec 32) (k0_hw54 : k0_chk54 v1116), ∀ a, (k0_off108 v1116) a + S1.size a ≤ S100.size a := fun v1116 k0_hw54 => k0_hw54

def k0_off109 (i : grid0.Coords) : Fin 1 → Nat :=
  let arg0 : BitVec 32 := BitVec.ofNat 32 (i 0).val
  let c64_i32_538 : BitVec 32 := 64#32
  let v1134 : BitVec 32 := Scalar.muli arg0 c64_i32_538
  let c54_i32 : BitVec 32 := 54#32
  let v1135 : BitVec 32 := Scalar.addi v1134 c54_i32
  let v1136 : Index := Scalar.indexCast v1135
  ![v1136.toNat]
def k0_off110 (v1137 : BitVec 32) : Fin 1 → Nat :=
  let v1138 : Index := Scalar.indexCast v1137
  ![v1138.toNat]

def k0_chk55 (v1137 : BitVec 32) : Prop :=
  (∀ a, (k0_off110 v1137) a + S1.size a ≤ S100.size a)
theorem k0_off110_inb : ∀ (v1137 : BitVec 32) (k0_hw55 : k0_chk55 v1137), ∀ a, (k0_off110 v1137) a + S1.size a ≤ S100.size a := fun v1137 k0_hw55 => k0_hw55

def k0_off111 (i : grid0.Coords) : Fin 1 → Nat :=
  let arg0 : BitVec 32 := BitVec.ofNat 32 (i 0).val
  let c64_i32_548 : BitVec 32 := 64#32
  let v1155 : BitVec 32 := Scalar.muli arg0 c64_i32_548
  let c55_i32 : BitVec 32 := 55#32
  let v1156 : BitVec 32 := Scalar.addi v1155 c55_i32
  let v1157 : Index := Scalar.indexCast v1156
  ![v1157.toNat]
def k0_off112 (v1158 : BitVec 32) : Fin 1 → Nat :=
  let v1159 : Index := Scalar.indexCast v1158
  ![v1159.toNat]

def k0_chk56 (v1158 : BitVec 32) : Prop :=
  (∀ a, (k0_off112 v1158) a + S1.size a ≤ S100.size a)
theorem k0_off112_inb : ∀ (v1158 : BitVec 32) (k0_hw56 : k0_chk56 v1158), ∀ a, (k0_off112 v1158) a + S1.size a ≤ S100.size a := fun v1158 k0_hw56 => k0_hw56

def k0_off113 (i : grid0.Coords) : Fin 1 → Nat :=
  let arg0 : BitVec 32 := BitVec.ofNat 32 (i 0).val
  let c64_i32_558 : BitVec 32 := 64#32
  let v1176 : BitVec 32 := Scalar.muli arg0 c64_i32_558
  let c56_i32 : BitVec 32 := 56#32
  let v1177 : BitVec 32 := Scalar.addi v1176 c56_i32
  let v1178 : Index := Scalar.indexCast v1177
  ![v1178.toNat]
def k0_off114 (v1179 : BitVec 32) : Fin 1 → Nat :=
  let v1180 : Index := Scalar.indexCast v1179
  ![v1180.toNat]

def k0_chk57 (v1179 : BitVec 32) : Prop :=
  (∀ a, (k0_off114 v1179) a + S1.size a ≤ S100.size a)
theorem k0_off114_inb : ∀ (v1179 : BitVec 32) (k0_hw57 : k0_chk57 v1179), ∀ a, (k0_off114 v1179) a + S1.size a ≤ S100.size a := fun v1179 k0_hw57 => k0_hw57

def k0_off115 (i : grid0.Coords) : Fin 1 → Nat :=
  let arg0 : BitVec 32 := BitVec.ofNat 32 (i 0).val
  let c64_i32_568 : BitVec 32 := 64#32
  let v1197 : BitVec 32 := Scalar.muli arg0 c64_i32_568
  let c57_i32 : BitVec 32 := 57#32
  let v1198 : BitVec 32 := Scalar.addi v1197 c57_i32
  let v1199 : Index := Scalar.indexCast v1198
  ![v1199.toNat]
def k0_off116 (v1200 : BitVec 32) : Fin 1 → Nat :=
  let v1201 : Index := Scalar.indexCast v1200
  ![v1201.toNat]

def k0_chk58 (v1200 : BitVec 32) : Prop :=
  (∀ a, (k0_off116 v1200) a + S1.size a ≤ S100.size a)
theorem k0_off116_inb : ∀ (v1200 : BitVec 32) (k0_hw58 : k0_chk58 v1200), ∀ a, (k0_off116 v1200) a + S1.size a ≤ S100.size a := fun v1200 k0_hw58 => k0_hw58

def k0_off117 (i : grid0.Coords) : Fin 1 → Nat :=
  let arg0 : BitVec 32 := BitVec.ofNat 32 (i 0).val
  let c64_i32_578 : BitVec 32 := 64#32
  let v1218 : BitVec 32 := Scalar.muli arg0 c64_i32_578
  let c58_i32 : BitVec 32 := 58#32
  let v1219 : BitVec 32 := Scalar.addi v1218 c58_i32
  let v1220 : Index := Scalar.indexCast v1219
  ![v1220.toNat]
def k0_off118 (v1221 : BitVec 32) : Fin 1 → Nat :=
  let v1222 : Index := Scalar.indexCast v1221
  ![v1222.toNat]

def k0_chk59 (v1221 : BitVec 32) : Prop :=
  (∀ a, (k0_off118 v1221) a + S1.size a ≤ S100.size a)
theorem k0_off118_inb : ∀ (v1221 : BitVec 32) (k0_hw59 : k0_chk59 v1221), ∀ a, (k0_off118 v1221) a + S1.size a ≤ S100.size a := fun v1221 k0_hw59 => k0_hw59

def k0_off119 (i : grid0.Coords) : Fin 1 → Nat :=
  let arg0 : BitVec 32 := BitVec.ofNat 32 (i 0).val
  let c64_i32_588 : BitVec 32 := 64#32
  let v1239 : BitVec 32 := Scalar.muli arg0 c64_i32_588
  let c59_i32 : BitVec 32 := 59#32
  let v1240 : BitVec 32 := Scalar.addi v1239 c59_i32
  let v1241 : Index := Scalar.indexCast v1240
  ![v1241.toNat]
def k0_off120 (v1242 : BitVec 32) : Fin 1 → Nat :=
  let v1243 : Index := Scalar.indexCast v1242
  ![v1243.toNat]

def k0_chk60 (v1242 : BitVec 32) : Prop :=
  (∀ a, (k0_off120 v1242) a + S1.size a ≤ S100.size a)
theorem k0_off120_inb : ∀ (v1242 : BitVec 32) (k0_hw60 : k0_chk60 v1242), ∀ a, (k0_off120 v1242) a + S1.size a ≤ S100.size a := fun v1242 k0_hw60 => k0_hw60

def k0_off121 (i : grid0.Coords) : Fin 1 → Nat :=
  let arg0 : BitVec 32 := BitVec.ofNat 32 (i 0).val
  let c64_i32_598 : BitVec 32 := 64#32
  let v1260 : BitVec 32 := Scalar.muli arg0 c64_i32_598
  let c60_i32 : BitVec 32 := 60#32
  let v1261 : BitVec 32 := Scalar.addi v1260 c60_i32
  let v1262 : Index := Scalar.indexCast v1261
  ![v1262.toNat]
def k0_off122 (v1263 : BitVec 32) : Fin 1 → Nat :=
  let v1264 : Index := Scalar.indexCast v1263
  ![v1264.toNat]

def k0_chk61 (v1263 : BitVec 32) : Prop :=
  (∀ a, (k0_off122 v1263) a + S1.size a ≤ S100.size a)
theorem k0_off122_inb : ∀ (v1263 : BitVec 32) (k0_hw61 : k0_chk61 v1263), ∀ a, (k0_off122 v1263) a + S1.size a ≤ S100.size a := fun v1263 k0_hw61 => k0_hw61

def k0_off123 (i : grid0.Coords) : Fin 1 → Nat :=
  let arg0 : BitVec 32 := BitVec.ofNat 32 (i 0).val
  let c64_i32_608 : BitVec 32 := 64#32
  let v1281 : BitVec 32 := Scalar.muli arg0 c64_i32_608
  let c61_i32 : BitVec 32 := 61#32
  let v1282 : BitVec 32 := Scalar.addi v1281 c61_i32
  let v1283 : Index := Scalar.indexCast v1282
  ![v1283.toNat]
def k0_off124 (v1284 : BitVec 32) : Fin 1 → Nat :=
  let v1285 : Index := Scalar.indexCast v1284
  ![v1285.toNat]

def k0_chk62 (v1284 : BitVec 32) : Prop :=
  (∀ a, (k0_off124 v1284) a + S1.size a ≤ S100.size a)
theorem k0_off124_inb : ∀ (v1284 : BitVec 32) (k0_hw62 : k0_chk62 v1284), ∀ a, (k0_off124 v1284) a + S1.size a ≤ S100.size a := fun v1284 k0_hw62 => k0_hw62

def k0_off125 (i : grid0.Coords) : Fin 1 → Nat :=
  let arg0 : BitVec 32 := BitVec.ofNat 32 (i 0).val
  let c64_i32_618 : BitVec 32 := 64#32
  let v1302 : BitVec 32 := Scalar.muli arg0 c64_i32_618
  let c62_i32 : BitVec 32 := 62#32
  let v1303 : BitVec 32 := Scalar.addi v1302 c62_i32
  let v1304 : Index := Scalar.indexCast v1303
  ![v1304.toNat]
def k0_off126 (v1305 : BitVec 32) : Fin 1 → Nat :=
  let v1306 : Index := Scalar.indexCast v1305
  ![v1306.toNat]

def k0_chk63 (v1305 : BitVec 32) : Prop :=
  (∀ a, (k0_off126 v1305) a + S1.size a ≤ S100.size a)
theorem k0_off126_inb : ∀ (v1305 : BitVec 32) (k0_hw63 : k0_chk63 v1305), ∀ a, (k0_off126 v1305) a + S1.size a ≤ S100.size a := fun v1305 k0_hw63 => k0_hw63

def k0_off127 (i : grid0.Coords) : Fin 1 → Nat :=
  let arg0 : BitVec 32 := BitVec.ofNat 32 (i 0).val
  let c64_i32_628 : BitVec 32 := 64#32
  let v1323 : BitVec 32 := Scalar.muli arg0 c64_i32_628
  let c63_i32 : BitVec 32 := 63#32
  let v1324 : BitVec 32 := Scalar.addi v1323 c63_i32
  let v1325 : Index := Scalar.indexCast v1324
  ![v1325.toNat]
def k0_off128 (v1326 : BitVec 32) : Fin 1 → Nat :=
  let v1327 : Index := Scalar.indexCast v1326
  ![v1327.toNat]

def k0_chk64 (v1326 : BitVec 32) : Prop :=
  (∀ a, (k0_off128 v1326) a + S1.size a ≤ S100.size a)
theorem k0_off128_inb : ∀ (v1326 : BitVec 32) (k0_hw64 : k0_chk64 v1326), ∀ a, (k0_off128 v1326) a + S1.size a ≤ S100.size a := fun v1326 k0_hw64 => k0_hw64

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S256 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S100 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S64x80x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x80x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x80x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S256x128x80x2 : Shape := ⟨4, ![256, 128, 80, 2]⟩
abbrev S256 : Shape := ⟨1, ![256]⟩
abbrev S256x128 : Shape := ⟨2, ![256, 128]⟩
abbrev S100 : Shape := ⟨1, ![100]⟩
abbrev S_ : Shape := ⟨0, ![]⟩
abbrev S256x1 : Shape := ⟨2, ![256, 1]⟩
abbrev S1 : Shape := ⟨1, ![1]⟩
abbrev S1x1 : Shape := ⟨2, ![1, 1]⟩
abbrev S256x1x1x1 : Shape := ⟨4, ![256, 1, 1, 1]⟩

abbrev nBuf : Space → Nat
  | .hbm => 44
  | .vmem => 0
  | .smem => 0
  | _ => 0

abbrev bufTy : (tb : Table) → Fin (tcTables nBuf tb) → BufTy
  | .hbm, ⟨0, _⟩ => ⟨S256x128x80x2, .f32⟩
  | .hbm, ⟨1, _⟩ => ⟨S256x128x80x2, .f32⟩
  | .hbm, ⟨2, _⟩ => ⟨S256, .i32⟩
  | .hbm, ⟨3, _⟩ => ⟨S256, .i32⟩
  | .hbm, ⟨4, _⟩ => ⟨S256, .i32⟩
  | .hbm, ⟨5, _⟩ => ⟨S256x128, .f32⟩
  | .hbm, ⟨6, _⟩ => ⟨S100, .f32⟩
  | .hbm, ⟨7, _⟩ => ⟨S_, .i32⟩
  | .hbm, ⟨8, _⟩ => ⟨S256, .i32⟩
  | .hbm, ⟨9, _⟩ => ⟨S256, .i1⟩
  | .hbm, ⟨10, _⟩ => ⟨S_, .i32⟩
  | .hbm, ⟨11, _⟩ => ⟨S256, .i32⟩
  | .hbm, ⟨12, _⟩ => ⟨S256, .i32⟩
  | .hbm, ⟨13, _⟩ => ⟨S256, .i32⟩
  | .hbm, ⟨14, _⟩ => ⟨S256x1, .i32⟩
  | .hbm, ⟨15, _⟩ => ⟨S1, .i32⟩
  | .hbm, ⟨16, _⟩ => ⟨S_, .i32⟩
  | .hbm, ⟨17, _⟩ => ⟨S256x1, .i32⟩
  | .hbm, ⟨18, _⟩ => ⟨S256x1, .i1⟩
  | .hbm, ⟨19, _⟩ => ⟨S1x1, .i32⟩
  | .hbm, ⟨20, _⟩ => ⟨S256x1, .i32⟩
  | .hbm, ⟨21, _⟩ => ⟨S256x1, .i1⟩
  | .hbm, ⟨22, _⟩ => ⟨S256x1, .i1⟩
  | .hbm, ⟨23, _⟩ => ⟨S_, .i1⟩
  | .hbm, ⟨24, _⟩ => ⟨S256, .i1⟩
  | .hbm, ⟨25, _⟩ => ⟨S256, .f32⟩
  | .hbm, ⟨26, _⟩ => ⟨S_, .f32⟩
  | .hbm, ⟨27, _⟩ => ⟨S256, .f32⟩
  | .hbm, ⟨28, _⟩ => ⟨S256, .f32⟩
  | .hbm, ⟨29, _⟩ => ⟨S256x1x1x1, .f32⟩
  | .hbm, ⟨30, _⟩ => ⟨S_, .f32⟩
  | .hbm, ⟨31, _⟩ => ⟨S256x1x1x1, .f32⟩
  | .hbm, ⟨32, _⟩ => ⟨S256x1x1x1, .f32⟩
  | .hbm, ⟨33, _⟩ => ⟨S_, .f32⟩
  | .hbm, ⟨34, _⟩ => ⟨S256x1x1x1, .f32⟩
  | .hbm, ⟨35, _⟩ => ⟨S256x1x1x1, .f32⟩
  | .hbm, ⟨36, _⟩ => ⟨S_, .f32⟩
  | .hbm, ⟨37, _⟩ => ⟨S256x1x1x1, .f32⟩
  | .hbm, ⟨38, _⟩ => ⟨S256x1x1x1, .f32⟩
  | .hbm, ⟨39, _⟩ => ⟨S256x128x80x2, .f32⟩
  | .hbm, ⟨40, _⟩ => ⟨S256x128x80x2, .f32⟩
  | .hbm, ⟨41, _⟩ => ⟨S256x128x80x2, .f32⟩
  | .hbm, ⟨42, _⟩ => ⟨S256x128x80x2, .f32⟩
  | .hbm, ⟨43, _⟩ => ⟨S256x128x80x2, .f32⟩
  | _, _ => ⟨S256x128x80x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_cst : Ref sig .tc := ⟨.hbm, 26, rfl⟩
abbrev main_call0_v14 : Ref sig .tc := ⟨.hbm, 27, rfl⟩
abbrev main_v0 : Ref sig .tc := ⟨.hbm, 28, rfl⟩
abbrev main_v1 : Ref sig .tc := ⟨.hbm, 29, rfl⟩
abbrev main_cst : Ref sig .tc := ⟨.hbm, 30, rfl⟩
abbrev main_v2 : Ref sig .tc := ⟨.hbm, 31, rfl⟩
abbrev main_v3 : Ref sig .tc := ⟨.hbm, 32, rfl⟩
abbrev main_cst_0 : Ref sig .tc := ⟨.hbm, 33, rfl⟩
abbrev main_v4 : Ref sig .tc := ⟨.hbm, 34, rfl⟩
abbrev main_v5 : Ref sig .tc := ⟨.hbm, 35, rfl⟩
abbrev main_cst_1 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩

abbrev nD : Nat := 1
abbrev τ : Topo := Topo.v7x

variable {F : FTy → Type} [FloatOps F]
-- ==== Proof.Step.lean ====
/-
One step of the noising kernel's body, as a program over any signature: step `j` of grid row `p` reads the timestep of
batch element `64 p + j`, the schedule's entry at that timestep, row `j` of the two staged blocks, and stores their
weighted sum in row `j` of the output block. The body is 64 such steps, one after the other.
-/
module

public import Idealize.ShloMosaic.Lib.Tactic
public import Idealize.ShloMosaic.Lib.Memref

@[expose] public section

noncomputable section

namespace Cert.Step

open Idealize.ShloMosaic Idealize.SL.Sem

/-- The timesteps, one word per batch element. -/
abbrev Steps : Shape := ⟨1, ![256]⟩
/-- The schedule. -/
abbrev Sched : Shape := ⟨1, ![100]⟩
/-- One word. -/
abbrev One : Shape := ⟨1, ![1]⟩
/-- A staged block: 64 batch elements, 80 time and coordinate rows, 128 agents. -/
abbrev Block : Shape := ⟨3, ![64, 80, 128]⟩
/-- One batch element of a block. -/
abbrev Row : Shape := ⟨3, ![1, 80, 128]⟩
/-- The same without the leading axis. -/
abbrev Flat : Shape := ⟨2, ![80, 128]⟩

/-- Where the timestep of step `j` of grid row `p` lies. -/
def stepOff (p j : Nat) : Fin 1 → Nat :=
  ![(Scalar.indexCast (Scalar.addi (Scalar.muli (BitVec.ofNat 32 p) 64#32) (BitVec.ofNat 32 j))).toNat]

/-- Where the schedule's entry for the timestep `v` lies. -/
def schedOff (v : BitVec 32) : Fin 1 → Nat := ![(Scalar.indexCast v).toNat]

/-- The timestep `v` names an entry of the schedule. -/
def InSched (v : BitVec 32) : Prop := ∀ a, schedOff v a + One.size a ≤ Sched.size a

/-- Whether a timestep names an entry of the schedule can be decided. -/
instance InSched.dec : ∀ v : BitVec 32, Decidable (InSched v) := fun v => decidable_of_iff' _ (Iff.of_eq (InSched.eq_1 v))

/-- One word is one element, -/
theorem one_numel : One.numel = 1 := by decide
/-- a row has at least one, -/
theorem row_pos : 0 < Row.numel := by decide +kernel
/-- and with its leading axis of one as many as without it. -/
theorem row_flat : Row.ShapeCasts Flat := by decide +kernel
/-- A row without its leading axis has as many elements as with it. -/
theorem flat_row : Flat.ShapeCasts Row := by decide +kernel

/-- The offset of step `j` of grid row `p` is `64 p + j`. -/
theorem stepOff_eq (p j : Nat) (hp : p < 4) (hj : j < 64) : stepOff p j 0 = 64 * p + j := by
  show (BitVec.ofNat 32 p * 64#32 + BitVec.ofNat 32 j).toNat = _
  simp only [BitVec.toNat_add, BitVec.toNat_mul, BitVec.toNat_ofNat]
  omega

/-- The word that step `j` of grid row `p` reads lies within the timesteps. -/
theorem stepOff_inb (p j : Nat) (hp : p < 4) (hj : j < 64) : ∀ a, stepOff p j a + One.size a ≤ Steps.size a := by
  intro a; fin_cases a
  show stepOff p j 0 + 1 ≤ 256
  rw [stepOff_eq p j hp hj]; omega

/-- Each of the 64 rows lies within the block. -/
theorem row_inb (j : Nat) (hj : j < 64) : ∀ a, (![j, 0, 0] : Fin 3 → Nat) a + Row.size a ≤ Block.size a := by
  intro a; fin_cases a
  · show j + 1 ≤ 64; omega
  · show 0 + 80 ≤ 80; omega
  · show 0 + 128 ≤ 128; omega

/-- Row `j` of a block. -/
abbrev rowAt (j : Nat) (hj : j < 64) : Rect Block := Rect.unit (s := Block) ![j, 0, 0] Row.size (row_inb j hj)

section Program

variable {F : FTy → Type} [FloatOps F] {nD : Nat} {τ : Topo} {sig : RefSig} {Λ : Labels}

/-- What step `j` stores: the first row times the square root of the schedule's entry `w`, plus the second row times
    the square root of one minus it. -/
def mix (w : F .f32) (o n : FVec F Row .f32) : FVec F Row .f32 :=
  shapeCast Row (addf (mulf (broadcast Flat (Scalar.sqrt w)) (shapeCast Flat o row_flat))
    (mulf (broadcast Flat (Scalar.sqrt (Scalar.subf (Scalar.ofBits .f32 0x3F800000#32) w))) (shapeCast Flat n row_flat))) flat_row

variable (ts : Memref sig .tc .smem Steps .i32) (sched : Memref sig .tc .smem Sched .f32)
  (o n out : Memref sig .tc .vmem Block .f32)

/-- Step `j` of grid row `p`, then `k`. -/
def step (p : Nat) (hp : p < 4) (j : Nat) (hj : j < 64) (k : Prog (TpuEff nD τ sig (Elt F) Λ .tc) PUnit) :
    Prog (TpuEff nD τ sig (Elt F) Λ .tc) PUnit :=
  smemLoadElt (p := (.tc : Proc τ)) ts (Rect.unit (s := Steps) (stepOff p j) One.size (stepOff_inb p j hp hj))
      (View.loads_smem_one rfl one_numel) (Shape.Idx.first (one_numel.symm ▸ Nat.one_pos)) fun (v : Elt F .i32) =>
    .op (.assume (InSched v) (InSched.dec v)) fun hv =>
    smemLoadElt (p := (.tc : Proc τ)) sched (Rect.unit (s := Sched) (schedOff v) One.size hv.down)
      (View.loads_smem_one rfl one_numel) (Shape.Idx.first (one_numel.symm ▸ Nat.one_pos)) fun (w : Elt F .f32) =>
    .op (.load o (rowAt j hj).toLoadRect (View.loadsAt_vmem row_pos)) fun (xo : Vec F Row .f32) =>
    .op (.load n (rowAt j hj).toLoadRect (View.loadsAt_vmem row_pos)) fun (xn : Vec F Row .f32) =>
    .op (.load out (rowAt j hj).toLoadRect (View.loadsAt_vmem row_pos)) fun _ =>
    .op (.store out (rowAt j hj) (mix w xo xn) Finset.univ (View.stores_vmem_bits_univ row_pos rfl) (.inl rfl)) fun _ => k

/-- The last `r` of the 64 steps of grid row `p`. -/
def lastSteps (p : Nat) (hp : p < 4) : (r : Nat) → r ≤ 64 → Prog (TpuEff nD τ sig (Elt F) Λ .tc) PUnit
  | 0, _ => .ret ⟨⟩
  | r + 1, h => step ts sched o n out p hp (64 - (r + 1)) (by omega) (lastSteps p hp r (by omega))

end Program

end Cert.Step

end
-- ==== Proof.Triple.lean ====
/-
What the 64 steps leave: from the two tables, the two input blocks and any output block, running every step of grid row
`p` ends with the tables and the inputs as they were and the output block at `blockOut`, the weighted sum of the inputs
element by element, provided that every timestep is below 100. Stated once for every step and every grid row.
-/
module

public import proofs.«01_k».proof.Proof.Step
public import Idealize.ShloMosaic.Lib.Pipeline.Value

@[expose] public section

noncomputable section

namespace Cert.Step

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ### The values -/

section Values

variable {F : FTy → Type} [FloatOps F]

/-- The weighted sum of two elements at the schedule's entry `w`. -/
def mixAt (w a b : F .f32) : F .f32 :=
  FloatOps.addf (FloatOps.mulf (Scalar.sqrt w) a)
    (FloatOps.mulf (Scalar.sqrt (Scalar.subf (Scalar.ofBits .f32 0x3F800000#32) w)) b)

/-- What a step stores is the weighted sum, element by element. -/
theorem mix_apply (w : F .f32) (o n : FVec F Row .f32) (i : Row.Idx) : mix w o n i = mixAt w (o i) (n i) := by
  have ho : o (Shape.reshapeEquiv row_flat (Shape.reshapeEquiv flat_row i)) = o i :=
    (congrFun (shapeCast_shapeCast o row_flat flat_row) i)
  have hn : n (Shape.reshapeEquiv row_flat (Shape.reshapeEquiv flat_row i)) = n i :=
    (congrFun (shapeCast_shapeCast n row_flat flat_row) i)
  unfold mix mixAt
  simp only [shapeCast, addf, mulf, broadcast, ho, hn]

/-- The batch element that row `j` of grid row `p`'s block belongs to. -/
def stepIx (p : Nat) (hp : p < 4) (j : Fin 64) : Steps.Idx := fun a => ⟨64 * p + j.val, by
  obtain rfl : a = 0 := Subsingleton.elim (α := Fin 1) _ _
  show 64 * p + j.val < 256; have := j.isLt; omega⟩

/-- The schedule's index that the timestep `v` names. -/
def schedIx (v : BitVec 32) : Sched.Idx := fun a => ⟨v.toNat % 100, by
  obtain rfl : a = 0 := Subsingleton.elim (α := Fin 1) _ _
  exact Nat.mod_lt _ (by decide : 0 < 100)⟩

/-- The output block of grid row `p`, from the timesteps, the schedule and the two input blocks. -/
def blockOut (p : Nat) (hp : p < 4) (t : Vec F Steps .i32) (s : Vec F Sched .f32) (a b : Vec F Block .f32) :
    Vec F Block .f32 :=
  fun y => mixAt (s (schedIx (t (stepIx p hp (y 0))))) (a y) (b y)

/-- A timestep below 100 names an entry of the schedule. -/
theorem inSched_of_lt {v : BitVec 32} (h : v.toNat < 100) : InSched v := by
  intro a; fin_cases a
  show (Scalar.indexCast v).toNat + 1 ≤ 100
  have : (Scalar.indexCast v).toNat = v.toNat := by
    simp [Scalar.indexCast]
  omega

/-- The word that step `j` of grid row `p` reads its timestep from. -/
theorem stepRect_idx (p : Nat) (hp : p < 4) (j : Nat) (hj : j < 64) (x : One.Idx) :
    (Rect.unit (s := Steps) (stepOff p j) One.size (stepOff_inb p j hp hj)).toLoadRect.idx x = stepIx p hp ⟨j, hj⟩ := by
  funext a
  obtain rfl : a = 0 := Subsingleton.elim (α := Fin 1) _ _
  apply Fin.ext
  show stepOff p j 0 + 1 * (x 0).val = 64 * p + j
  have : (x 0).val < 1 := (x 0).isLt
  rw [stepOff_eq p j hp hj]; omega

/-- The entry of the schedule that the timestep `v` names. -/
theorem schedRect_idx (v : BitVec 32) (hv : InSched v) (h : v.toNat < 100) (x : One.Idx) :
    (Rect.unit (s := Sched) (schedOff v) One.size hv).toLoadRect.idx x = schedIx v := by
  funext a
  obtain rfl : a = 0 := Subsingleton.elim (α := Fin 1) _ _
  apply Fin.ext
  show (Scalar.indexCast v).toNat + 1 * (x 0).val = v.toNat % 100
  have : (x 0).val < 1 := (x 0).isLt
  have : (Scalar.indexCast v).toNat = v.toNat := by
    simp [Scalar.indexCast]
  rw [Nat.mod_eq_of_lt h]; omega

end Values

/-! ### One step -/

section Triple

variable {F : FTy → Type} [FloatOps F] {nD : Nat} {τ : Topo} {sig : RefSig} {Λ : Labels}
variable {Ix : Type} [DecidableEq Ix] {Name : Type} [DecidableEq Name] {U : Type} [URA U] {Lvl : Type} [Preorder Lvl]

local notation "𝕄" => MT nD τ sig Ix (Elt F) Name U Lvl

variable {defs : Defs nD τ sig (Elt F) Λ} (𝒱 : Variants) (c : Dev nD) (bd : Option 𝒱.V) (E : Set Name)

/-- A load from a memref owned at contents `X` continues at `X` read at the coordinates loaded. -/
theorem wp_load_owned {cs : CoreSpace} {s : Shape} {e : EltTy} {m : Memref sig .tc cs s e} {r : LoadRect s}
    {hl : m.view.LoadsAt r} {k : (r.shape.Idx → Elt F e) → Prog (TpuEff nD τ sig (Elt F) Λ .tc) PUnit}
    {q : PosShare TreeShare} {X : s.Idx → Elt F e} {Q : PUnit → sProp 𝕄} :
    (owns (c : Thread nD τ) m q X)
      ⊢ iprop((owns (c : Thread nD τ) m q X -∗ wp frame (wpE defs 𝒱 (c : Thread nD τ) bd) E (k fun i => X (r.idx i)) Q)
        -∗ wp frame (wpE defs 𝒱 (c : Thread nD τ) bd) E (.op (.load m r hl) k) Q) := by
  unfold owns
  iintro ⟨%f, %hf, H⟩ Hk
  subst hf
  iapply (wp_load (defs := defs) 𝒱 (c : Thread nD τ) bd E (m := m) (r := r) (hl := hl) (k := k) (f := f)
    (S := m.view.set) (View.setOn_subset_set _ _)) $$ [H]
  · iexact H
  iintro H
  iapply Hk
  iexists f
  isplitr
  · ipureintro; rfl
  iexact H

/-- A one-word load from a memref owned at contents `X` continues at the word `v` that `X` holds there. -/
theorem wp_word_owned {s : Shape} {e : EltTy} {m : Memref sig .tc .smem s e} {r : Rect s} {hl : (m.access r).Loads}
    {x : r.shape.Idx} {k : Elt F e → Prog (TpuEff nD τ sig (Elt F) Λ .tc) PUnit}
    {q : PosShare TreeShare} {X : s.Idx → Elt F e} {Q : PUnit → sProp 𝕄} (v : Elt F e) (hv : X (r.idx x) = v) :
    (owns (c : Thread nD τ) m q X)
      ⊢ iprop((owns (c : Thread nD τ) m q X -∗ wp frame (wpE defs 𝒱 (c : Thread nD τ) bd) E (k v) Q)
        -∗ wp frame (wpE defs 𝒱 (c : Thread nD τ) bd) E (smemLoadElt (p := (.tc : Proc τ)) m r hl x k) Q) := by
  subst hv
  unfold smemLoadElt
  exact wp_load_owned (F := F) (Ix := Ix) (Name := Name) (U := U) (Lvl := Lvl) (defs := defs) (m := m) (r := r.toLoadRect)
    (k := fun f => k (f x)) (X := X) (Q := Q) 𝒱 c bd E

/-- An unmasked store through a rectangle of a memref owned at contents `X` leaves it at contents `Y` that agree with
    what is stored inside the rectangle and with `X` outside it. -/
theorem wp_store_owned {cs : CoreSpace} {s : Shape} {e : EltTy} {m : Memref sig .tc cs s e} {r : Rect s}
    {w : r.shape.Idx → Elt F e} {hx : (m.access r).Stores Finset.univ} {hm : Finset.univ = Finset.univ ∨ ∀ a, r.stride a = 1}
    {k : PUnit → Prog (TpuEff nD τ sig (Elt F) Λ .tc) PUnit} {X Y : s.Idx → Elt F e}
    {Q : PUnit → sProp 𝕄} (hin : ∀ i, Y (r.emb i) = w i) (hout : ∀ y, y ∉ r.set → Y y = X y) :
    (owns (c : Thread nD τ) m fullShare X)
      ⊢ iprop((owns (c : Thread nD τ) m fullShare Y -∗ wp frame (wpE defs 𝒱 (c : Thread nD τ) bd) E (k ⟨⟩) Q)
        -∗ wp frame (wpE defs 𝒱 (c : Thread nD τ) bd) E (.op (.store m r w Finset.univ hx hm) k) Q) := by
  unfold owns
  iintro ⟨%f, %hf, H⟩ Hk
  subst hf
  iapply (wp_store (defs := defs) 𝒱 (c : Thread nD τ) bd E (m := m) (r := r) (w := w) (hx := hx) (hm := hm) (k := k) (f := f)
    (S := m.view.set) (by rw [View.setOn_univ]; exact View.set_slice_subset _ _)) $$ [H]
  · iexact H
  iintro H
  iapply Hk
  iexists ((m.access r).write (Elt F) f w Finset.univ)
  isplitr
  · ipureintro
    funext y
    by_cases hy : y ∈ r.set
    · obtain ⟨i, rfl⟩ := r.exists_idx_of_mem hy
      refine Eq.trans ?_ (hin i).symm
      exact View.read_slice_write_emb r f w (Finset.mem_univ i)
    · rw [hout y hy]
      exact View.read_slice_write_of_not_mem r f w _ (by rwa [r.map_emb_univ])
  iexact H

variable (ts : Memref sig .tc .smem Steps .i32) (sched : Memref sig .tc .smem Sched .f32)
  (o n out : Memref sig .tc .vmem Block .f32)

/-- Core `c` holds the two tables at `t`, `s`, the two input blocks at `a`, `b` and the output block at `d`. -/
def holds (t : Vec F Steps .i32) (s : Vec F Sched .f32) (a b d : Vec F Block .f32) : sProp 𝕄 :=
  iprop(owns (c : Thread nD τ) ts fullShare t ∗ owns (c : Thread nD τ) sched fullShare s
    ∗ owns (c : Thread nD τ) o fullShare a ∗ owns (c : Thread nD τ) n fullShare b
    ∗ owns (c : Thread nD τ) out fullShare d)

/-- Step `j` turns an output block at `d` into one at `d'`, where `d'` is `blockOut` on row `j` and `d` elsewhere. -/
theorem wp_step (p : Nat) (hp : p < 4) (j : Nat) (hj : j < 64) (t : Vec F Steps .i32) (s : Vec F Sched .f32)
    (a b d d' : Vec F Block .f32) (ht : ∀ x, (t x : BitVec 32).toNat < 100)
    (hin : ∀ y : Block.Idx, (y 0).val = j → d' y = blockOut p hp t s a b y)
    (hout : ∀ y : Block.Idx, (y 0).val ≠ j → d' y = d y)
    (k : Prog (TpuEff nD τ sig (Elt F) Λ .tc) PUnit) (Q : PUnit → sProp 𝕄) :
    holds c ts sched o n out t s a b d
      ⊢ iprop((holds c ts sched o n out t s a b d' -∗ wp frame (wpE defs 𝒱 (c : Thread nD τ) bd) E k Q)
        -∗ wp frame (wpE defs 𝒱 (c : Thread nD τ) bd) E (step ts sched o n out p hp j hj k) Q) := by
  unfold holds step
  have hv := inSched_of_lt (ht (stepIx p hp ⟨j, hj⟩))
  iintro ⟨Ht, Hs, Ha, Hb, Hd⟩ Hk
  iapply (wp_word_owned 𝒱 c bd E _ (congrArg t (stepRect_idx p hp j hj _))) $$ Ht
  iintro Ht
  rw [wp_assume_of 𝒱 (c : Thread nD τ) bd E hv]
  iapply (wp_word_owned 𝒱 c bd E _ (congrArg s (schedRect_idx _ hv (ht _) _))) $$ Hs
  iintro Hs
  iapply (wp_load_owned 𝒱 c bd E) $$ Ha
  iintro Ha
  iapply (wp_load_owned 𝒱 c bd E) $$ Hb
  iintro Hb
  iapply (wp_load_owned 𝒱 c bd E) $$ Hd
  iintro Hd
  iapply (wp_store_owned 𝒱 c bd E (Y := d') ?_ ?_) $$ Hd
  · intro i
    have h0 : ((rowAt j hj).emb i 0).val = j := by
      show j + 1 * (i 0).val = j
      have : (i 0).val < 1 := (i 0).isLt
      omega
    have h0' : (rowAt j hj).emb i 0 = (⟨j, hj⟩ : Fin 64) := Fin.ext h0
    refine (hin _ h0).trans ?_
    rw [mix_apply]
    unfold blockOut
    rw [h0']
    rfl
  · intro y hy
    refine hout y fun h => hy ?_
    rw [Rect.mem_set_unit]
    intro x
    fin_cases x
    · show j ≤ (y 0).val ∧ (y 0).val < j + 1
      omega
    · exact ⟨Nat.zero_le _, by show (y 1).val < 0 + 80; have : (y 1).val < 80 := (y 1).isLt; omega⟩
    · exact ⟨Nat.zero_le _, by show (y 2).val < 0 + 128; have : (y 2).val < 128 := (y 2).isLt; omega⟩
  iintro Hd
  iapply Hk
  isplitl [Ht]; · iexact Ht
  isplitl [Hs]; · iexact Hs
  isplitl [Ha]; · iexact Ha
  isplitl [Hb]; · iexact Hb
  iexact Hd

/-! ### All steps -/

/-- The last `r` steps complete the block: if its rows before those already are `blockOut`'s, it ends at `blockOut`. -/
theorem wp_lastSteps (p : Nat) (hp : p < 4) (t : Vec F Steps .i32) (s : Vec F Sched .f32) (a b : Vec F Block .f32)
    (ht : ∀ x, (t x : BitVec 32).toNat < 100) (Q : PUnit → sProp 𝕄) (r : Nat) (hr : r ≤ 64) (d : Vec F Block .f32)
    (hd : ∀ y : Block.Idx, (y 0).val < 64 - r → d y = blockOut p hp t s a b y) :
    holds c ts sched o n out t s a b d
      ⊢ iprop((holds c ts sched o n out t s a b (blockOut p hp t s a b) -∗ Q ⟨⟩)
        -∗ wp frame (wpE defs 𝒱 (c : Thread nD τ) bd) E (lastSteps ts sched o n out p hp r hr) Q) := by
  induction r generalizing d with
  | zero =>
    obtain rfl : d = blockOut p hp t s a b := funext fun y => hd y (y 0).isLt
    unfold lastSteps
    iintro H Hk
    sl_step
    iapply Hk
    iexact H
  | succ r ih =>
    unfold lastSteps
    iintro H Hk
    iapply (wp_step 𝒱 c bd E ts sched o n out p hp (64 - (r + 1)) _ t s a b d
      (fun y => if (y 0).val = 64 - (r + 1) then blockOut p hp t s a b y else d y) ht
      (fun y h => if_pos h) (fun y h => if_neg h)) $$ H
    iintro H
    iapply (ih _ _ ?_) $$ H
    · intro y hy
      dsimp only
      split
      · rfl
      · exact hd y (by omega)
    iexact Hk

end Triple

end Cert.Step

end
-- ==== Proof.Run.lean ====
/-
The idealized kernel's run: its body is the 64 steps; each grid point's output block is the weighted sum of that
point's input blocks (`Cert.Step.blockOut`); the pipeline over the 4 by 2 grid terminates and leaves every array at what
those blocks amount to. All for any float values, given that every timestep is below 100.
-/
module

public import proofs.«01_k».proof.Proof.Triple
public import proofs.«01_k».proof.Proof.Gen.KernelIdeal.Frame
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Step (lastSteps blockOut wp_lastSteps)

variable {F : FTy → Type} [FloatOps F]

local notation "𝕄" => MT nD τ sig Unit (Elt F) ℕ (UR sig nD τ) ℕ

/-- The grid row of a grid point is below 4. -/
theorem row_lt (i : grid0.Coords) : (i 0).val < 4 := (i 0).isLt

set_option maxRecDepth 100000 in
/-- The kernel's body is the 64 steps of its grid row. -/
theorem body_eq (i : grid0.Coords) (ts : Memref sig .tc .smem S256 .i32) (hts : ts.IsWhole)
    (sched : Memref sig .tc .smem S100 .f32) (hsched : sched.IsWhole)
    (o : Memref sig .tc .vmem S64x80x128 .f32) (ho : o.IsWhole) (n : Memref sig .tc .vmem S64x80x128 .f32) (hn : n.IsWhole)
    (out : Memref sig .tc .vmem S64x80x128 .f32) (hout : out.IsWhole) :
    cc0__body (F := F) i ts hts sched hsched o ho n hn out hout
      = lastSteps ts sched o n out (i 0).val (row_lt i) 64 le_rfl := rfl

variable (m : (ℓ : Loc nD τ sig) → Buf (Elt F) ℓ) (ρ : Dev nD → PrngReg)

/-- Every timestep of every core's argument is below 100. -/
def StepsBelow : Prop := ∀ (c : Dev nD) (x : S256.Idx),
  ((m ((c : Thread nD τ).loc main_arg2) : Vec F S256 .i32) x : BitVec 32).toNat < 100

/-- What the body leaves in the output's staging buffer at grid point `t`. -/
def outAt (c : Dev nD) (t : Fin cfg0.N) : Vec F S64x80x128 .f32 :=
  blockOut (grid0.coords t 0).val (row_lt _) (iblk m c 0 t) (iblk m c 1 t) (iblk m c 2 t) (iblk m c 3 t)

/-- The pipeline's proof data on core `c`: the arrays as the region finds them; after the body each input's buffer at
    its block and the output's at `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ _ := Pipeline.ΦA spec0 c
  q _ := fullShare
  owed _ := 0

/-- The proof data's arrays are those that the region finds. -/
theorem A_eq (c : Dev nD) (w : Fin cfg0.W) : (dats m 0 c).A w = V m c (Pipeline.arrRef spec0 w) := by
  dsimp only [dats]

/-- After the body the timesteps' buffer holds its block, -/
theorem after_ts (c : Dev nD) (t : Fin cfg0.N) : (dats m 0 c).after 0 t = iblk m c 0 t := by dsimp only [dats]
/-- the schedule's its block, -/
theorem after_sched (c : Dev nD) (t : Fin cfg0.N) : (dats m 0 c).after 1 t = iblk m c 1 t := by dsimp only [dats]
/-- the samples' its block, -/
theorem after_o (c : Dev nD) (t : Fin cfg0.N) : (dats m 0 c).after 2 t = iblk m c 2 t := by dsimp only [dats]
/-- the noise's its block, -/
theorem after_n (c : Dev nD) (t : Fin cfg0.N) : (dats m 0 c).after 3 t = iblk m c 3 t := by dsimp only [dats]
/-- and the output's what the body leaves there. -/
theorem after_out (c : Dev nD) (t : Fin cfg0.N) : (dats m 0 c).after 4 t = outAt m c t := by dsimp only [dats]

/-- Before the body the timesteps' buffer holds its block, -/
theorem before_ts (c : Dev nD) (t : Fin cfg0.N) (d) : (dats m 0 c).before 0 t d = iblk m c 0 t :=
  before0_0_of m (dats m 0 c) (A_eq m c 0) (after_ts m c) t d
/-- the schedule's its block, -/
theorem before_sched (c : Dev nD) (t : Fin cfg0.N) (d) : (dats m 0 c).before 1 t d = iblk m c 1 t :=
  before0_1_of m (dats m 0 c) (A_eq m c 1) (after_sched m c) t d
/-- the samples' its block, -/
theorem before_o (c : Dev nD) (t : Fin cfg0.N) (d) : (dats m 0 c).before 2 t d = iblk m c 2 t :=
  before0_2_of m (dats m 0 c) (A_eq m c 2) (after_o m c) t d
/-- and the noise's its block. -/
theorem before_n (c : Dev nD) (t : Fin cfg0.N) (d) : (dats m 0 c).before 3 t d = iblk m c 3 t :=
  before0_3_of m (dats m 0 c) (A_eq m c 3) (after_n m c) t d

/-- The timesteps' window sits at block index zero at every grid point, -/
theorem index_ts : ∀ t : Fin cfg0.N, win0_0.index t (0 : Fin 1) = 0 := (by decide +kernel : ∀ t : Fin grid0.N, _)
/-- and so does the schedule's. -/
theorem index_sched : ∀ t : Fin cfg0.N, win0_1.index t (0 : Fin 1) = 0 := (by decide +kernel : ∀ t : Fin grid0.N, _)

/-- So an index of the timesteps' block is the same index of the timesteps, -/
theorem emb_ts (t : Fin cfg0.N) (j : S256.Idx) : ((cfg0.win 0).blk t).view.emb j = j := by
  funext a; match a with
  | ⟨0, _⟩ => exact Fin.ext (win0_0.rect_emb_val_of_index_zero t (0 : Fin 1) (index_ts t) j)
/-- and an index of the schedule's block the same index of the schedule. -/
theorem emb_sched (t : Fin cfg0.N) (j : S100.Idx) : ((cfg0.win 1).blk t).view.emb j = j := by
  funext a; match a with
  | ⟨0, _⟩ => exact Fin.ext (win0_1.rect_emb_val_of_index_zero t (0 : Fin 1) (index_sched t) j)

/-- The timesteps' block at every grid point is the whole argument, -/
theorem iblk_ts (c : Dev nD) (t : Fin cfg0.N) :
    (iblk m c 0 t : Vec F S256 .i32) = m ((c : Thread nD τ).loc main_arg2) := by
  rw [← V_main_arg2 m c]; funext j
  show V m c main_arg2 (((cfg0.win 0).blk t).view.emb j) = V m c main_arg2 j; rw [emb_ts]
/-- and so is the schedule's. -/
theorem iblk_sched (c : Dev nD) (t : Fin cfg0.N) :
    (iblk m c 1 t : Vec F S100 .f32) = m ((c : Thread nD τ).loc main_arg6) := by
  rw [← V_main_arg6 m c]; funext j
  show V m c main_arg6 (((cfg0.win 1).blk t).view.emb j) = V m c main_arg6 j; rw [emb_sched]

/-- What the body is given at grid point `t`, -/
def given (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it gives back. -/
def returned (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any grid point: its 64 steps complete the output block. -/
theorem body_sound (hlt : StepsBelow m) (c : Dev nD) (t : Fin cfg0.N) :
    given m c t ⊢ wp frame (wpE (defs₀ (F := F)) Variants.none (c : Thread nD τ) none) Set.univ (bodyAt0 t) (fun _ => returned m c t) := by
  unfold given returned bodyAt0
  rw [body_eq]
  simp only [before_ts, before_sched, before_o, before_n]
  rw [show (dats m 0 c).Φ t.succ = (dats m 0 c).Φ t.castSucc from rfl,
    show (dats m 0 c).owesAt () t.succ = (dats m 0 c).owesAt () t.castSucc from rfl,
    after_ts, after_sched, after_o, after_n, after_out]
  unfold outAt
  iintro ⟨HΦ, Ho, ⟨%d0, H0⟩, ⟨%d1, H1⟩, ⟨%d2, H2⟩, ⟨%d3, H3⟩, ⟨%d4, H4⟩⟩
  iapply (wp_lastSteps Variants.none c none Set.univ (st0_0 t) (st0_1 t) (st0_2 t) (st0_3 t) (st0_4 t) _ (row_lt _)
    (iblk m c 0 t) (iblk m c 1 t) (iblk m c 2 t) (iblk m c 3 t) (fun x => by rw [iblk_ts]; exact hlt c x) _ 64 le_rfl
    ((dats m 0 c).before 4 t d4) (fun y h => absurd h (by omega))) $$ [H0 H1 H2 H3 H4]
  · unfold Cert.Step.holds
    isplitl [H0]; · iexact H0
    isplitl [H1]; · iexact H1
    isplitl [H2]; · iexact H2
    isplitl [H3]; · iexact H3
    iexact H4
  unfold Cert.Step.holds
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- What the pipeline calls at grid point `t` is the body there. -/
theorem defs₀_row (t : Fin cfg0.N) :
    defs₀ (F := F) .tc cfg0.body (cfg0.bodyArgs t (cfg0.slots t)) = bodyAt0 t := by
  unfold defs₀; rw [Defs.onTc_tc]

/-- The pipeline's obligation on the body, at every grid point. -/
theorem body_obligation (hlt : StepsBelow m) (c : Dev nD) :
    BodyObligation (dats (F := F) m 0 c) (defs₀ (F := F)) Variants.none () Set.univ := fun t => by
  rw [bigSep_W0, bigSep_W0, defs₀_row]
  exact triple_restated (body_sound m hlt c t) rfl .rfl fun _ => .rfl

/-! ## The run -/

set_option backward.isDefEq.respectTransparency.types false in
set_option maxHeartbeats 800000 in
/-- Every execution terminates with each of the pipeline's arrays at what the blocks amount to, every other buffer as
    the host operations after the region leave it, and every semaphore counter at zero. -/
theorem run_quiescent (hlt : StepsBelow m) : θ_run defs (onTc (τ := τ) (main (F := F))) (s₀ m ρ) (fun r =>
    (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m hlt c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The same without the counters. -/
theorem run_post (hlt : StepsBelow m) : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiescent m ρ hlt)

/-- Every argument array ends unchanged and every semaphore counter at zero. -/
theorem unchanged (hlt : StepsBelow m) : θ_run defs (onTc (τ := τ) (main (F := F))) ⟨m, fun _ => 0, ρ⟩ fun r =>
    (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6))
    ∧ r.2.sem = fun _ => 0 :=
  θ_run_and (frame_of m ρ (dats m) (A_eq m) (run_post m ρ hlt))
    ((θ_run defs _ _).mono (fun _ h => h.2) (run_quiescent m ρ hlt))

end Cert.KernelIdeal.Gen

end
-- ==== Proof.KernelRun.lean ====
/-
The kernel's own run, over any float values: its program is the idealized kernel's, so it runs as that one does.
-/
module

public import proofs.«01_k».proof.Proof.Run
public import proofs.«01_k».proof.Proof.Gen.Kernel

@[expose] public section

set_option maxRecDepth 16384

noncomputable section

namespace Cert.Kernel.Gen

open Idealize.ShloMosaic Idealize.ShloMosaic.TcCoe Idealize.SL.Sem

variable {F : FTy → Type} [FloatOps F]

set_option maxRecDepth 100000 in
/-- The kernel's body is the 64 steps of its grid row. -/
theorem body_eq (i : grid0.Coords) (ts : Memref sig .tc .smem S256 .i32) (hts : ts.IsWhole)
    (sched : Memref sig .tc .smem S100 .f32) (hsched : sched.IsWhole)
    (o : Memref sig .tc .vmem S64x80x128 .f32) (ho : o.IsWhole) (n : Memref sig .tc .vmem S64x80x128 .f32) (hn : n.IsWhole)
    (out : Memref sig .tc .vmem S64x80x128 .f32) (hout : out.IsWhole) :
    cc0__body (F := F) i ts hts sched hsched o ho n hn out hout
      = Cert.Step.lastSteps ts sched o n out (i 0).val (Cert.KernelIdeal.Gen.row_lt i) 64 le_rfl := rfl

/-- The two programs are one: the same host operations, -/
theorem main_eq : main (F := F) = Cert.KernelIdeal.main (F := F) := rfl

/-- the same body, -/
theorem defs₀_eq : defs₀ (F := F) = Cert.KernelIdeal.defs₀ := by
  unfold defs₀ Cert.KernelIdeal.defs₀
  refine congrArg Defs.onTc (funext fun l => funext fun a => ?_)
  match l, a with
  | 0, (t, s) => exact (body_eq ..).trans (Cert.KernelIdeal.Gen.body_eq ..).symm

/-- the same pipeline. -/
theorem defs_eq : defs (F := F) = Cert.KernelIdeal.defs := by
  unfold defs Cert.KernelIdeal.defs
  rw [defs₀_eq]
  rfl

/-- Every argument array ends unchanged and every semaphore counter at zero, given that every timestep is below 100. -/
theorem unchanged (m : (ℓ : Loc nD τ sig) → Buf (Elt F) ℓ) (ρ : Dev nD → PrngReg)
    (hlt : ∀ (c : Dev nD) (x : S256.Idx), ((m ((c : Thread nD τ).loc main_arg2) : Vec F S256 .i32) x : BitVec 32).toNat < 100) :
    θ_run defs (onTc (τ := τ) (main (F := F))) ⟨m, fun _ => 0, ρ⟩ fun r =>
    (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6))
    ∧ r.2.sem = fun _ => 0 := by
  rw [defs_eq, main_eq]
  exact Cert.KernelIdeal.Gen.unchanged m ρ hlt

end Cert.Kernel.Gen

end
-- ==== Proof.Pre.lean ====
/-
What the two preconditions say of the arguments: every timestep names an entry of the schedule, and, of the second, every
entry of the schedule lies between zero and one.
-/
module

public import proofs.«01_k».proof.Proof.Gen.Pre_steps_in_schedule
public import proofs.«01_k».proof.Proof.Gen.Pre_steps_and_levels_in_range
public import Idealize.ShloMosaic.Lib.IdealHost
public import Idealize.ShloMosaic.Lib.Pipeline.Value

@[expose] public section

set_option maxRecDepth 16384

noncomputable section

namespace Cert.Step

open Idealize.ShloMosaic

/-- A conjunction of two one-bit words is one exactly when both are. -/
theorem and_one {a b : BitVec 1} : IntOp.andi a b = 1#1 ↔ a = 1#1 ∧ b = 1#1 := by
  unfold IntOp.andi; revert a b; decide

/-- A truth value's bit is one exactly when it is true. -/
theorem bit_one {p : Bool} : BitVec.ofBool p = 1#1 ↔ p = true := by cases p <;> decide

/-- A word at least zero and less than 100, read signed, is less than 100 read unsigned. -/
theorem word_lt (w : BitVec 32) (h0 : IntOp.cmpi .sge w 0#32 = 1#1) (h1 : IntOp.cmpi .slt w 100#32 = 1#1) :
    w.toNat < 100 := by
  simp only [IntOp.cmpi, bit_one, BitVec.sle, BitVec.slt, decide_eq_true_eq, BitVec.toInt, BitVec.toNat_ofNat] at h0 h1
  omega

variable {F : FTy → Type} [FloatOps F]

/-- The first precondition: every timestep is below 100. -/
theorem steps_below {a0 a1 : FVec F ⟨4, ![256, 128, 80, 2]⟩ .f32} {a2 a3 a4 : IVec ⟨1, ![256]⟩ 32}
    {a5 : FVec F ⟨2, ![256, 128]⟩ .f32} {a6 : FVec F ⟨1, ![100]⟩ .f32}
    (h : Cert.Pre_steps_in_schedule.fn a0 a1 a2 a3 a4 a5 a6 = fun _ => 1#1) (x : Shape.Idx ⟨1, ![256]⟩) :
    (a2 x).toNat < 100 := by
  obtain ⟨h0, h1⟩ := and_one.mp (congrFun h x)
  exact word_lt _ h0 h1

/-- The index of a table of samples by steps, from its two coordinates; -/
def pair {n k : ℕ} (a : Fin n) (b : Fin k) : Shape.Idx ⟨2, ![n, k]⟩ := fun i => match i with
  | ⟨0, _⟩ => a
  | ⟨1, _⟩ => b

/-- an index of a list, from its one coordinate; -/
def single {n : ℕ} (a : Fin n) : Shape.Idx ⟨1, ![n]⟩ := fun i => match i with
  | ⟨0, _⟩ => a

/-- and every index of a list is of that form. -/
theorem one_coord {n : ℕ} (x : Shape.Idx ⟨1, ![n]⟩) : ∃ a : Fin n, x = single a :=
  ⟨x 0, funext fun i => match i with
    | ⟨0, _⟩ => rfl⟩

/-- A list over the samples spread over the table holds at each place the list's value at the place's sample; -/
theorem down_rows {α : Type} (h : Shape.BroadcastsInDim ⟨1, ![256]⟩ ⟨2, ![256, 1]⟩ (![0] : Fin 1 → Fin 2))
    (h' : Shape.BroadcastsInDim ⟨2, ![256, 1]⟩ ⟨2, ![256, 100]⟩ (![0, 1] : Fin 2 → Fin 2))
    (z : Shape.Idx ⟨1, ![256]⟩ → α) (a : Fin 256) (b : Fin 100) :
    broadcastInDim _ _ h' (broadcastInDim _ _ h z) (pair a b) = z (single a) :=
  (broadcastInDim_apply _ h' _ (pair a b) (pair a (0 : Fin 1)) (fun i => match i with
    | ⟨0, _⟩ => rfl
    | ⟨1, _⟩ => rfl)).trans
  (broadcastInDim_apply _ h z (pair a (0 : Fin 1)) (single a) (fun i => match i with
    | ⟨0, _⟩ => rfl))

/-- a list over the steps, its value at the place's step. -/
theorem across_columns {α : Type} (h : Shape.BroadcastsInDim ⟨1, ![100]⟩ ⟨2, ![1, 100]⟩ (![1] : Fin 1 → Fin 2))
    (h' : Shape.BroadcastsInDim ⟨2, ![1, 100]⟩ ⟨2, ![256, 100]⟩ (![0, 1] : Fin 2 → Fin 2))
    (z : Shape.Idx ⟨1, ![100]⟩ → α) (a : Fin 256) (b : Fin 100) :
    broadcastInDim _ _ h' (broadcastInDim _ _ h z) (pair a b) = z (single b) :=
  (broadcastInDim_apply _ h' _ (pair a b) (pair (0 : Fin 1) b) (fun i => match i with
    | ⟨0, _⟩ => rfl
    | ⟨1, _⟩ => rfl)).trans
  (broadcastInDim_apply _ h z (pair (0 : Fin 1) b) (single b) (fun i => match i with
    | ⟨0, _⟩ => rfl))

/-- The second precondition at a sample and a step of the schedule: the sample's timestep is in the schedule, and the
    step's level compares at least zero and at most one. -/
theorem both_at {a0 a1 : FVec F ⟨4, ![256, 128, 80, 2]⟩ .f32} {a2 a3 a4 : IVec ⟨1, ![256]⟩ 32}
    {a5 : FVec F ⟨2, ![256, 128]⟩ .f32} {a6 : FVec F ⟨1, ![100]⟩ .f32}
    (h : Cert.Pre_steps_and_levels_in_range.fn a0 a1 a2 a3 a4 a5 a6 = fun _ => 1#1)
    (x : Shape.Idx ⟨1, ![256]⟩) (y : Shape.Idx ⟨1, ![100]⟩) :
    (a2 x).toNat < 100 ∧ FloatOps.cmpf .oge (a6 y) (FloatOps.ofBits .f32 0x00000000#32) = 1#1
      ∧ FloatOps.cmpf .ole (a6 y) (FloatOps.ofBits .f32 0x3F800000#32) = 1#1 := by
  obtain ⟨a, rfl⟩ := one_coord x
  obtain ⟨b, rfl⟩ := one_coord y
  obtain ⟨hs, hl⟩ := and_one.mp (congrFun h (pair a b))
  have hs := (down_rows _ _ _ a b).symm.trans hs
  have hl := (across_columns _ _ _ a b).symm.trans hl
  obtain ⟨h0, h1⟩ := and_one.mp hs
  obtain ⟨g0, g1⟩ := and_one.mp hl
  exact ⟨word_lt _ h0 h1, g0, g1⟩

/-- Over the extended reals: every level lies between zero and one. -/
theorem levels_in {a0 a1 : FVec Ideal ⟨4, ![256, 128, 80, 2]⟩ .f32} {a2 a3 a4 : IVec ⟨1, ![256]⟩ 32}
    {a5 : FVec Ideal ⟨2, ![256, 128]⟩ .f32} {a6 : FVec Ideal ⟨1, ![100]⟩ .f32}
    (h : Cert.Pre_steps_and_levels_in_range.fn a0 a1 a2 a3 a4 a5 a6 = fun _ => 1#1) (y : Shape.Idx ⟨1, ![100]⟩) :
    (0 : EReal) ≤ a6 y ∧ (a6 y : EReal) ≤ 1 := by
  obtain ⟨-, g0, g1⟩ := both_at h (single (0 : Fin 256)) y
  have g0 := bit_one.mp g0
  have g1 := bit_one.mp g1
  simp only [decide_eq_true_eq] at g0 g1
  change Ideal.ofBits .f32 0x00000000#32 ≤ _ at g0
  change _ ≤ Ideal.ofBits .f32 0x3F800000#32 at g1
  rw [Ideal.ofBits_zero_f32] at g0
  rw [Ideal.ofBits_one_f32] at g1
  exact ⟨g0, g1⟩

end Cert.Step

end
-- ==== Proof.Value.lean ====
/-
The idealized kernel's result: each element is the noised sample, weighted by the level its sample's timestep names.
-/
module

public import proofs.«01_k».proof.Proof.Run
public import proofs.«01_k».proof.Proof.Pre
public import Idealize.ShloMosaic.Lib.StableHlo.Run
public import Idealize.ShloMosaic.Lib.Pipeline.Value
public import Idealize.ShloMosaic.Lib.Pipeline.ValueKit.Geometry

@[expose] public section

set_option maxRecDepth 16384

noncomputable section

namespace Cert.KernelIdeal.Gen

open Idealize.ShloMosaic Idealize.ShloMosaic.TcCoe Idealize.SL.Sem
open Idealize.ShloMosaic.Pipeline (Dat)
open Cert.Step (blockOut mixAt schedIx stepIx single)

variable {F : FTy → Type} [FloatOps F]
variable (m : (ℓ : Loc nD τ sig) → Buf (Elt F) ℓ) (ρ : Dev nD → PrngReg)

/-- The noise level of a sample: the schedule's entry at the sample's timestep. -/
def levelOf (c : Dev nD) (b : Fin 256) : F .f32 :=
  (m ((c : Thread nD τ).loc main_arg6) : Vec F S100 .f32)
    (schedIx ((m ((c : Thread nD τ).loc main_arg2) : Vec F S256 .i32) (single b)))

/-- The launch's result array: at each index the weighted sum of the two operands there. -/
def noised (c : Dev nD) : Vec F S256x160x128 .f32 := fun i =>
  mixAt (levelOf m c (i 0)) ((V m c main_v1 : Vec F S256x160x128 .f32) i) ((V m c main_v3 : Vec F S256x160x128 .f32) i)

/-- The output's block sits, on the samples' axis, at the grid row. -/
theorem index_row : ∀ t : Fin cfg0.N, win0_4.index t (0 : Fin 3) = (grid0.coords t 0).val :=
  (by decide +kernel : ∀ t : Fin grid0.N, _)

/-- The sample an element of the output's block belongs to. -/
theorem emb_row (t : Fin cfg0.N) (y : S64x80x128.Idx) :
    stepIx (grid0.coords t 0).val (row_lt _) (y 0) = single (n := 256) (((cfg0.win 4).blk t).view.emb y 0) := by
  funext a; match a with
  | ⟨0, _⟩ =>
    refine Fin.ext ?_
    have h : ((((cfg0.win 4).blk t).view.emb y 0 : Fin 256) : ℕ) = win0_4.index t (0 : Fin 3) * 64 + (y 0).val :=
      win0_4.rect_emb_val t y (0 : Fin 3)
    rw [index_row] at h
    show 64 * (grid0.coords t 0).val + (y 0).val = _
    rw [Nat.mul_comm]; exact h.symm

/-- The samples' block holds the samples where the output's block sits, -/
theorem iblk_o (c : Dev nD) (t : Fin cfg0.N) (y : S64x80x128.Idx) : (iblk m c 2 t : Vec F S64x80x128 .f32) y
    = (V m c main_v1 : Vec F S256x160x128 .f32) (((cfg0.win 4).blk t).view.emb y) := rfl
/-- and the noise's block the noise. -/
theorem iblk_n (c : Dev nD) (t : Fin cfg0.N) (y : S64x80x128.Idx) : (iblk m c 3 t : Vec F S64x80x128 .f32) y
    = (V m c main_v3 : Vec F S256x160x128 .f32) (((cfg0.win 4).blk t).view.emb y) := rfl

/-- What the body leaves at grid point `t` is its block of `noised`. -/
theorem outAt_apply (c : Dev nD) (t : Fin cfg0.N) (y : S64x80x128.Idx) :
    outAt m c t y = noised m c (((cfg0.win 4).blk t).view.emb y) := by
  unfold outAt blockOut
  rw [iblk_ts, iblk_sched, emb_row, iblk_o, iblk_n]
  rfl

/-- The launch's result array after the run. -/
theorem final_out (c : Dev nD) : (dats m 0 c).arrAt 4 cfg0.N = noised m c := by
  refine (dats m 0 c).arrAt_eq_of_covers 4 (noised m c) (by decide +kernel) fun t hf y => ?_
  rw [after_out]
  exact outAt_apply m c t y

/-! ## The layout around the launch -/

/-- The place of an element of a sample (sample, agent, time, coordinate) once the agents are moved last, -/
def agentsLast (i : S256x128x80x2.Idx) : S256x80x2x128.Idx := fun a => match a with
  | ⟨0, _⟩ => i 0
  | ⟨1, _⟩ => i 2
  | ⟨2, _⟩ => i 3
  | ⟨3, _⟩ => i 1

/-- and its place once time and coordinate are then made one axis. -/
def merged (i : S256x128x80x2.Idx) : S256x160x128.Idx := fun a => match a with
  | ⟨0, _⟩ => i 0
  | ⟨1, _⟩ => (⟨2 * (i 2).val + (i 3).val, by
      have h2 : (i 2).val < 80 := (i 2).isLt
      have h3 : (i 3).val < 2 := (i 3).isLt
      omega⟩ : Fin 160)
  | ⟨2, _⟩ => i 1

/-- The two places count the same number of elements before them. -/
theorem merged_count (i : S256x128x80x2.Idx) :
    (S256x80x2x128.rowMajor (agentsLast i)).val = (S256x160x128.rowMajor (merged i)).val := by
  rw [Shape.rowMajor_val_four, Shape.rowMajor_val_three]
  show (((i 0).val * 80 + (i 2).val) * 2 + (i 3).val) * 128 + (i 1).val
    = ((i 0).val * 160 + (2 * (i 2).val + (i 3).val)) * 128 + (i 1).val
  omega

/-- Moving the agents last and merging the time and coordinate axes: the element of `x` at `i` goes to `merged i`. -/
theorem laid_out (x : Vec F S256x128x80x2 .f32) (i : S256x128x80x2.Idx) :
    shapeCast S256x160x128 (transpose S256x80x2x128 [0, 2, 3, 1] x transposes_S256x128x80x2_S256x80x2x128_0_2_3_1)
      shapeCasts_S256x80x2x128_S256x160x128 (merged i) = x i :=
  (shapeCast_apply _ _ (merged i) (agentsLast i) (merged_count i)).trans
    (transpose_apply _ x _ (agentsLast i) i fun b => match b with
      | ⟨0, _⟩ => rfl
      | ⟨1, _⟩ => rfl
      | ⟨2, _⟩ => rfl
      | ⟨3, _⟩ => rfl)

/-- The way back: at `i` the element at `merged i`. -/
theorem laid_back (z : Vec F S256x160x128 .f32) (i : S256x128x80x2.Idx) :
    transpose S256x128x80x2 [0, 3, 1, 2] (shapeCast S256x80x2x128 z shapeCasts_S256x160x128_S256x80x2x128)
      transposes_S256x80x2x128_S256x128x80x2_0_3_1_2 i = z (merged i) :=
  (transpose_apply _ _ _ i (agentsLast i) fun b => match b with
      | ⟨0, _⟩ => rfl
      | ⟨1, _⟩ => rfl
      | ⟨2, _⟩ => rfl
      | ⟨3, _⟩ => rfl).trans
    (shapeCast_apply z _ (agentsLast i) (merged i) (merged_count i).symm)

/-- The launch finds the samples laid out with the agents last and time and coordinate merged, -/
theorem V_samples (c : Dev nD) : (V m c main_v1 : Vec F S256x160x128 .f32)
    = shapeCast S256x160x128 (transpose S256x80x2x128 [0, 2, 3, 1] (m ((c : Thread nD τ).loc main_arg0))
        transposes_S256x128x80x2_S256x80x2x128_0_2_3_1) shapeCasts_S256x80x2x128_S256x160x128 := by
  unfold V V0
  simp only [hostOps0, List.flatten_cons, List.flatten_nil, List.append_nil]
  after_results
  rfl
/-- and the noise likewise. -/
theorem V_noise (c : Dev nD) : (V m c main_v3 : Vec F S256x160x128 .f32)
    = shapeCast S256x160x128 (transpose S256x80x2x128 [0, 2, 3, 1] (m ((c : Thread nD τ).loc main_arg1))
        transposes_S256x128x80x2_S256x80x2x128_0_2_3_1) shapeCasts_S256x80x2x128_S256x160x128 := by
  unfold V V0
  simp only [hostOps0, List.flatten_cons, List.flatten_nil, List.append_nil]
  after_results
  rfl

/-- The kernel's result as a function of its arguments. -/
def result (c : Dev nD) : Vec F S256x128x80x2 .f32 := fun i =>
  mixAt (levelOf m c (i 0)) ((m ((c : Thread nD τ).loc main_arg0) : Vec F S256x128x80x2 .f32) i)
    ((m ((c : Thread nD τ).loc main_arg1) : Vec F S256x128x80x2 .f32) i)

/-- The launch's result at an element's place in it. -/
theorem noised_merged (c : Dev nD) (i : S256x128x80x2.Idx) : noised m c (merged i) = result m c i := by
  unfold noised result
  rw [V_samples, V_noise, laid_out, laid_out]
  rfl

/-- The host operations after the launch leave the result array at `result`. -/
theorem W_result (c : Dev nD) :
    (Pipeline.afterTail₀ cfgs (dats m) 0 (V0 m) [hostOps1] c main_v6 : Vec F S256x128x80x2 .f32) = result m c := by
  unfold Pipeline.afterTail₀
  have e : Pipeline.withArrays cfg0.spec c (V0 m c) (fun w => (dats m 0 c).arrAt w cfg0.N) (Proc.devRef .tc main_v4)
      = noised m c := (Pipeline.withArrays_arr cfg0.spec launch0.win.arr_inj c (V0 m c) _ 4).trans (final_out m c)
  simp only [hostOps1, List.flatten_cons, List.flatten_nil, List.append_nil]
  after_results
  funext i
  refine Eq.trans ?_ (noised_merged m c i)
  rw [← e]
  exact laid_back _ i

/-- Every execution ends with the result array at `result`. -/
theorem computes (hlt : StepsBelow m) : θ_run defs (onTc (τ := τ) (main (F := F))) ⟨m, fun _ => 0, ρ⟩ fun r =>
    ∀ c : Dev nD, r.2.mem ((c : Thread nD τ).loc main_v6) = result m c :=
  (θ_run defs _ _).mono (fun _ h c =>
    ((h c).2 main_v6 (Pipeline.mem_restRefs_of main_v6 (by decide) (by decide))).trans (W_result m c)) (run_post m ρ hlt)

end Cert.KernelIdeal.Gen

end
-- ==== Proof.Reference.lean ====
/-
The reference's result: at each index the sample and the noise, weighted by the square roots (as powers) of the level
the sample's timestep names and of one minus it.
-/
module

public import proofs.«01_k».proof.Proof.Triple
public import proofs.«01_k».proof.Proof.Pre
public import proofs.«01_k».proof.Proof.Gen.ReferenceIdeal.Read
public import Idealize.ShloMosaic.Lib.StableHlo.Predicate
public import Idealize.ShloMosaic.Lib.IdealHost

@[expose] public section

set_option maxRecDepth 16384

noncomputable section

namespace Cert.ReferenceIdeal.Value

open Cert.ReferenceIdeal Cert.ReferenceIdeal.Gen Cert.ReferenceIdeal.Read
open Idealize.ShloMosaic Idealize.ShloMosaic.TcCoe Idealize.SL.Sem
open Cert.Step (schedIx single and_one)

variable {F : FTy → Type} [FloatOps F]

/-- A word below 100 is not negative, -/
theorem not_negative (w : BitVec 32) (h : w.toNat < 100) : IntOp.cmpi .slt w 0#32 = 0#1 := by
  have : ¬ w.toInt < 0 := by rw [BitVec.toInt_eq_toNat_of_lt (by omega)]; omega
  simp [IntOp.cmpi, BitVec.slt, this]

/-- at least zero, -/
theorem at_least_zero (w : BitVec 32) (h : w.toNat < 100) : IntOp.cmpi .sge w 0#32 = 1#1 := by
  have : (0 : ℤ) ≤ w.toInt := by rw [BitVec.toInt_eq_toNat_of_lt (by omega)]; omega
  simp [IntOp.cmpi, BitVec.sle, this]

/-- and at most 99. -/
theorem at_most_last (w : BitVec 32) (h : w.toNat < 100) : IntOp.cmpi .sle w 99#32 = 1#1 := by
  have : w.toInt ≤ 99 := by rw [BitVec.toInt_eq_toNat_of_lt (by omega)]; omega
  simp [IntOp.cmpi, BitVec.sle, this]

/-- A conjunction over a list of ones, begun at one, is one. -/
theorem all_ones {α : Type} (x : α → BitVec 1) (hx : ∀ i, x i = 1#1) :
    ∀ l : List α, l.foldl (fun r i => IntOp.andi r (x i)) 1#1 = 1#1
  | [] => rfl
  | i :: l => by
    rw [List.foldl_cons, and_one.mpr ⟨rfl, hx i⟩]
    exact all_ones x hx l

variable (ts : (⟨S256, .i32⟩ : BufTy).Contents (Elt F)) (hts : ∀ x : S256.Idx, (ts x : BitVec 32).toNat < 100)
include hts

/-- The lookup's wrapped timestep is the timestep. -/
theorem wrapped (x : S256.Idx) : val_main_call0_v4 (F := F) ts x = ts x := by
  rw [val_main_call0_v4_apply, val_main_call0_v1_apply, val_main_call0_v0_apply, val_main_call0_c_apply,
    not_negative _ (hts x)]
  rfl

/-- The same of the timesteps as a column. -/
theorem wrapped_column (x : S256x1.Idx) : val_main_call0_v5 (F := F) ts x = ts (idx_main_call0_v5 x) := by
  rw [val_main_call0_v5_apply, wrapped ts hts]

/-- Every lookup is marked in range. -/
theorem marked (x : S256x1.Idx) : val_main_call0_v11 (F := F) ts x = 1#1 := by
  rw [val_main_call0_v11_apply, val_main_call0_v7_apply, val_main_call0_v10_apply, wrapped_column ts hts,
    val_main_call0_v6_apply, val_main_call0_c_2_apply, val_main_call0_v9_apply, val_main_call0_v8_apply,
    val_main_call0_c_1_apply]
  exact and_one.mpr ⟨at_least_zero _ (hts _), at_most_last _ (hts _)⟩

/-- Every sample is marked in range: the conjunction over its one lookup. -/
theorem marked_sample (x : S256.Idx) : val_main_call0_v12 (F := F) ts x = 1#1 := by
  unfold val_main_call0_v12
  rw [Host.reduce_eq_foldl]
  exact all_ones _ (marked ts hts) _

/-- The lookup reads the schedule at the timestep. -/
theorem looked_up (sched : (⟨S100, .f32⟩ : BufTy).Contents (Elt F)) (x : S256.Idx) :
    val_main_v0 (F := F) ts sched x = sched (schedIx (ts x)) := by
  obtain ⟨a, rfl⟩ := Cert.Step.one_coord x
  have ha : (single a : S256.Idx) = Shape.Idx.ofFin a := by
    funext i; match i with
    | ⟨0, _⟩ => rfl
  have hc : idx_main_call0_v5 (StableHlo.Predicate.ixP a) = single a := by
    funext i; match i with
    | ⟨0, _⟩ => rfl
  rw [val_main_v0_apply, marked_sample ts hts]
  show val_main_call0_v13 (F := F) ts sched (single a) = _
  unfold val_main_call0_v13
  rw [ha, StableHlo.Predicate.gather_take _ rfl rfl rfl rfl sched _ a (by decide), ← ha]
  refine congrArg sched (funext fun i => ?_)
  match i with
  | ⟨0, _⟩ =>
    have h := hts (single a)
    refine Fin.ext ?_
    show min (val_main_call0_v5 (F := F) ts (StableHlo.Predicate.ixP a) : BitVec 32).toInt.toNat (100 - 1)
      = (ts (single a) : BitVec 32).toNat % 100
    rw [wrapped_column ts hts, hc, BitVec.toInt_eq_toNat_of_lt (by omega)]
    omega

/-- The reference at an index. -/
theorem reference_at (x n : (⟨S256x128x80x2, .f32⟩ : BufTy).Contents (Elt F)) (sched : (⟨S100, .f32⟩ : BufTy).Contents (Elt F))
    (i : S256x128x80x2.Idx) :
    val_main_v12 (F := F) x n ts sched i =
      FloatOps.addf
        (FloatOps.mulf (FloatOps.hostPowf (sched (schedIx (ts (single (n := 256) (i 0))))) (FloatOps.ofBits .f32 0x3F000000#32)) (x i))
        (FloatOps.mulf (FloatOps.hostPowf (FloatOps.subf (FloatOps.ofBits .f32 0x3F800000#32) (sched (schedIx (ts (single (n := 256) (i 0))))))
          (FloatOps.ofBits .f32 0x3F000000#32)) (n i)) := by
  have h8 : idx_main_v1 (idx_main_v8 i) = single (n := 256) (i 0) := by
    funext a; match a with
    | ⟨0, _⟩ => refine Fin.ext ?_; show (((i 0).val * 1 + 0) * 1 + 0) * 1 + 0 = (i 0).val; omega
  have h10 : idx_main_v1 (idx_main_v10 i) = single (n := 256) (i 0) := h8
  rw [val_main_v12_apply, val_main_v9_apply, val_main_v8_apply, val_main_v3_apply, val_main_v1_apply, h8,
    val_main_v11_apply, val_main_v10_apply, val_main_v7_apply, val_main_v5_apply, val_main_v1_apply, h10, looked_up ts hts,
    val_main_v2_apply, val_main_cst_apply, val_main_v4_apply, val_main_cst_0_apply, val_main_v6_apply, val_main_cst_1_apply]

end Cert.ReferenceIdeal.Value

end
-- ==== Proof.Root.lean ====
/-
Over the extended reals the square root of a level between zero and one is its power one half.
-/
module

public import proofs.«01_k».proof.Proof.Triple
public import Idealize.ShloMosaic.PureOps.Ideal
public import Idealize.ShloMosaic.Lib.IdealHost

@[expose] public section

noncomputable section

namespace Cert.Step

open Idealize.ShloMosaic

/-- The float pattern of one half is the extended real one half. -/
theorem half_word : Ideal.ofBits .f32 0x3F000000#32 = (((1 : ℝ) / 2 : ℝ) : EReal) := by
  simp [Ideal.ofBits, Ideal.ieee, -EReal.coe_mul]; norm_num

/-- The square root of a real at least zero is its power one half. -/
theorem root_eq_power (r : ℝ) (h : 0 ≤ r) : Ideal.sqrt (r : EReal) = Ideal.pow (r : EReal) (((1 : ℝ) / 2 : ℝ) : EReal) := by
  show (if r < 0 then ⊥ else (Real.sqrt r : EReal)) = (Real.rpow r (1 / 2) : EReal)
  rw [if_neg (not_lt.mpr h), Real.sqrt_eq_rpow]
  rfl

/-- The kernel's weighted sum at a level between zero and one is the reference's. -/
theorem mixAt_ideal (w a b : Ideal .f32) (h0 : (0 : EReal) ≤ w) (h1 : (w : EReal) ≤ 1) :
    mixAt (F := Ideal) w a b = FloatOps.addf
        (FloatOps.mulf (FloatOps.hostPowf w (FloatOps.ofBits .f32 0x3F000000#32)) a)
        (FloatOps.mulf (FloatOps.hostPowf (FloatOps.subf (FloatOps.ofBits .f32 0x3F800000#32) w)
          (FloatOps.ofBits .f32 0x3F000000#32)) b) := by
  obtain ⟨r, rfl⟩ : ∃ r : ℝ, w = (r : EReal) :=
    ⟨EReal.toReal w, (EReal.coe_toReal (ne_of_lt (lt_of_le_of_lt h1 (EReal.coe_lt_top 1)))
      (ne_of_gt (lt_of_lt_of_le (EReal.bot_lt_coe 0) h0))).symm⟩
  have g0 : 0 ≤ r := EReal.coe_nonneg.mp h0
  have g1 : r ≤ 1 := EReal.coe_le_coe_iff.mp h1
  have e : (Ideal.ofBits .f32 0x3F800000#32 : EReal) - (r : EReal) = ((1 - r : ℝ) : EReal) := by
    rw [Ideal.ofBits_one_f32]; exact (EReal.coe_sub 1 r).symm
  show Ideal.sqrt (r : EReal) * a + Ideal.sqrt (Ideal.ofBits .f32 0x3F800000#32 - (r : EReal)) * b
    = Ideal.pow (r : EReal) (Ideal.ofBits .f32 0x3F000000#32) * a
      + Ideal.pow (Ideal.ofBits .f32 0x3F800000#32 - (r : EReal)) (Ideal.ofBits .f32 0x3F000000#32) * b
  rw [e, half_word, root_eq_power r g0, root_eq_power (1 - r) (by linarith)]

end Cert.Step

end
-- ==== Proof.lean ====
/-
The proof of `Cert.Claim`. The kernel and its idealization run without fault when every timestep names an entry of the
schedule (`KernelRun`, `Run`); the idealized kernel's result (`Value`) is at every index the reference's (`Reference`),
since a level between zero and one has its square root as its power one half, and so has one minus it (`Root`).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_steps_in_schedule
public import proofs.«01_k».proof.Proof.Gen.Pre_steps_and_levels_in_range
public import proofs.«01_k».proof.Proof.Gen.ReferenceIdeal.Run
public import proofs.«01_k».proof.Proof.Gen.ReferenceIdeal.Read
public import proofs.«01_k».proof.Proof.KernelRun
public import proofs.«01_k».proof.Proof.Value
public import proofs.«01_k».proof.Proof.Reference
public import proofs.«01_k».proof.Proof.Root
public import Idealize.ShloMosaic.Adequacy
public import Idealize.ShloMosaic.Init

@[expose] public section

noncomputable section

namespace Cert.Proof

open Idealize.ShloMosaic Idealize.SL.Sem Cert.Kernel

/-- The reference runs, leaves its arguments unchanged and, using no semaphore, ends with every counter at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0 :=
  (θ_run Cert.ReferenceIdeal.defs _ _).mono
    (fun r h => And.intro (fun c => (h c).2) (sem_eq_zero_of_no_sems (by decide) r.2))
    (Cert.ReferenceIdeal.Value.run (F := Ideal) m g)

/-- The kernel and the reference leave the same result: at every index the kernel's square roots are the reference's
    powers, since the level that the sample's timestep names lies between zero and one. -/
theorem same_result (m : (ℓ : Loc Cert.KernelIdeal.nD Cert.KernelIdeal.τ Cert.KernelIdeal.sig) → Buf (Elt Ideal) ℓ)
    (h : Cert.Pre_KernelIdeal_steps_and_levels_in_range m) (c : Dev Cert.KernelIdeal.nD) :
    Cert.ReferenceIdeal.Read.val_main_v12 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg6))
      = Cert.KernelIdeal.Gen.result m c := by
  funext i
  have hlt : ∀ x : Cert.KernelIdeal.S256.Idx, ((m ((c.tc : Thread Cert.KernelIdeal.nD Cert.KernelIdeal.τ).loc Cert.KernelIdeal.main_arg2)
      : Vec Ideal Cert.KernelIdeal.S256 .i32) x : BitVec 32).toNat < 100 :=
    fun x => (Cert.Step.both_at (h c) x (Cert.Step.single (0 : Fin 100))).1
  obtain ⟨h0, h1⟩ := Cert.Step.levels_in (h c) (Cert.Step.schedIx
    ((m ((c.tc : Thread Cert.KernelIdeal.nD Cert.KernelIdeal.τ).loc Cert.KernelIdeal.main_arg2) : Vec Ideal Cert.KernelIdeal.S256 .i32)
      (Cert.Step.single (n := 256) (i 0))))
  exact (Cert.ReferenceIdeal.Value.reference_at _ hlt _ _ _ i).trans (Cert.Step.mixAt_ideal _ _ _ h0 h1).symm

/-- Each claim by the theorem of its part: the run for the frames, and the two results at an index for the values. -/
theorem claim : Cert.Claim := by
  refine ⟨Cert.Kernel.Gen.facts, Cert.KernelIdeal.Gen.facts, Cert.ReferenceIdeal.Gen.facts,
    Cert.Pre_steps_in_schedule.Gen.facts, Cert.Pre_steps_and_levels_in_range.Gen.facts, ?_, ?_, ?_, ?_, ?_, trivial, ?_⟩
  · exact fun m g h => Cert.Kernel.Gen.unchanged m g fun c x => Cert.Step.steps_below (h c) x
  · exact fun m g h => Cert.KernelIdeal.Gen.unchanged m g fun c x => Cert.Step.steps_below (h c) x
  · exact fun m g h => Cert.KernelIdeal.Gen.unchanged m g fun c x => (Cert.Step.both_at (h c) x (Cert.Step.single (0 : Fin 100))).1
  · exact fun m g _ => reference_frame m g
  · exact fun m g _ => reference_frame m g
  · intro m g m' g' h e
    have hlt : Cert.KernelIdeal.Gen.StepsBelow m := fun c x => (Cert.Step.both_at (h c) x (Cert.Step.single (0 : Fin 100))).1
    refine ⟨fun c => Cert.KernelIdeal.Gen.result m c,
      (θ_run _ _ _).mono (fun r q c => ⟨q.1 c, q.2.1 c⟩)
        (θ_run_and (Cert.KernelIdeal.Gen.computes m g hlt) (Cert.KernelIdeal.Gen.unchanged m g hlt)),
      (θ_run _ _ _).mono (fun r q c => ⟨?_, (q c).2⟩) (Cert.ReferenceIdeal.Value.run (F := Ideal) m' g')⟩
    obtain ⟨e0, e1, e2, -, -, -, e6⟩ := e c
    refine (q c).1.trans ((Cert.ReferenceIdeal.Read.val_main_v12_eq (F := Ideal) _ _ _ _).trans ?_)
    rw [e0, e1, e2, e6]
    exact same_result m h c

end Cert.Proof

end
